-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v235)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v235) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S50000x128 : Shape := ⟨2, ![50000, 128]⟩
abbrev S2x256000 : Shape := ⟨2, ![2, 256000]⟩
abbrev S128x128 : Shape := ⟨2, ![128, 128]⟩
abbrev S1x4x32 : Shape := ⟨3, ![1, 4, 32]⟩
abbrev S128 : Shape := ⟨1, ![128]⟩
abbrev S1x256000 : Shape := ⟨2, ![1, 256000]⟩
abbrev S256000 : Shape := ⟨1, ![256000]⟩
abbrev S128x256 : Shape := ⟨2, ![128, 256]⟩
abbrev S_ : Shape := ⟨0, ![]⟩
abbrev S128x4 : Shape := ⟨2, ![128, 4]⟩
abbrev S1x1x32 : Shape := ⟨3, ![1, 1, 32]⟩
abbrev S32 : Shape := ⟨1, ![32]⟩
abbrev S1 : Shape := ⟨1, ![1]⟩
abbrev S2 : Shape := ⟨1, ![2]⟩
abbrev S128x16 : Shape := ⟨2, ![128, 16]⟩
abbrev S256x16 : Shape := ⟨2, ![256, 16]⟩
abbrev S50000x16 : Shape := ⟨2, ![50000, 16]⟩
abbrev S200x16 : Shape := ⟨2, ![200, 16]⟩
abbrev S2000x128 : Shape := ⟨2, ![2000, 128]⟩
abbrev S2000x16 : Shape := ⟨2, ![2000, 16]⟩
abbrev S8x16 : Shape := ⟨2, ![8, 16]⟩
abbrev S2000x256 : Shape := ⟨2, ![2000, 256]⟩
abbrev S16 : Shape := ⟨1, ![16]⟩
abbrev S1x16 : Shape := ⟨2, ![1, 16]⟩
abbrev S4 : Shape := ⟨1, ![4]⟩
abbrev S8 : Shape := ⟨1, ![8]⟩
abbrev S1x8 : Shape := ⟨2, ![1, 8]⟩
abbrev S50000x4 : Shape := ⟨2, ![50000, 4]⟩
abbrev S1x4 : Shape := ⟨2, ![1, 4]⟩
abbrev S256000x1 : Shape := ⟨2, ![256000, 1]⟩
abbrev S256000x4 : Shape := ⟨2, ![256000, 4]⟩
abbrev S50000x4x32 : Shape := ⟨3, ![50000, 4, 32]⟩
abbrev S256000x4x1 : Shape := ⟨3, ![256000, 4, 1]⟩
abbrev S256000x4x32 : Shape := ⟨3, ![256000, 4, 32]⟩
abbrev S50000x1x32 : Shape := ⟨3, ![50000, 1, 32]⟩
abbrev S50000x32 : Shape := ⟨2, ![50000, 32]⟩
abbrev S1x128 : Shape := ⟨2, ![1, 128]⟩
abbrev S2000x4 : Shape := ⟨2, ![2000, 4]⟩
abbrev S2000x32 : Shape := ⟨2, ![2000, 32]⟩
abbrev S2000x1 : Shape := ⟨2, ![2000, 1]⟩

abbrev nBuf : Space → Nat
  | .hbm => 313
  | .vmem => 42
  | .smem => 0
  | _ => 0

abbrev hbmTy0_0 (i : Nat) : BufTy := match i % 128 with
  | 0 => ⟨S50000x128, .f32⟩
  | 1 => ⟨S2x256000, .i32⟩
  | 2 => ⟨S2x256000, .i32⟩
  | 3 => ⟨S128x128, .f32⟩
  | 4 => ⟨S1x4x32, .f32⟩
  | 5 => ⟨S1x4x32, .f32⟩
  | 6 => ⟨S128, .f32⟩
  | 7 => ⟨S128x128, .f32⟩
  | 8 => ⟨S1x4x32, .f32⟩
  | 9 => ⟨S1x4x32, .f32⟩
  | 10 => ⟨S128, .f32⟩
  | 11 => ⟨S1x256000, .i32⟩
  | 12 => ⟨S256000, .i32⟩
  | 13 => ⟨S1x256000, .i32⟩
  | 14 => ⟨S256000, .i32⟩
  | 15 => ⟨S1x256000, .i32⟩
  | 16 => ⟨S256000, .i32⟩
  | 17 => ⟨S1x256000, .i32⟩
  | 18 => ⟨S256000, .i32⟩
  | 19 => ⟨S128x256, .f32⟩
  | 20 => ⟨S_, .f32⟩
  | 21 => ⟨S128x4, .f32⟩
  | 22 => ⟨S_, .f32⟩
  | 23 => ⟨S128x4, .f32⟩
  | 24 => ⟨S1x1x32, .f32⟩
  | 25 => ⟨S32, .f32⟩
  | 26 => ⟨S_, .i32⟩
  | 27 => ⟨S1, .i32⟩
  | 28 => ⟨S_, .i32⟩
  | 29 => ⟨S1, .i32⟩
  | 30 => ⟨S2, .i32⟩
  | 31 => ⟨S128x4, .f32⟩
  | 32 => ⟨S1x1x32, .f32⟩
  | 33 => ⟨S32, .f32⟩
  | 34 => ⟨S_, .i32⟩
  | 35 => ⟨S1, .i32⟩
  | 36 => ⟨S_, .i32⟩
  | 37 => ⟨S1, .i32⟩
  | 38 => ⟨S2, .i32⟩
  | 39 => ⟨S128x4, .f32⟩
  | 40 => ⟨S1x1x32, .f32⟩
  | 41 => ⟨S32, .f32⟩
  | 42 => ⟨S_, .i32⟩
  | 43 => ⟨S1, .i32⟩
  | 44 => ⟨S_, .i32⟩
  | 45 => ⟨S1, .i32⟩
  | 46 => ⟨S2, .i32⟩
  | 47 => ⟨S128x4, .f32⟩
  | 48 => ⟨S1x1x32, .f32⟩
  | 49 => ⟨S32, .f32⟩
  | 50 => ⟨S_, .i32⟩
  | 51 => ⟨S1, .i32⟩
  | 52 => ⟨S_, .i32⟩
  | 53 => ⟨S1, .i32⟩
  | 54 => ⟨S2, .i32⟩
  | 55 => ⟨S128x4, .f32⟩
  | 56 => ⟨S_, .f32⟩
  | 57 => ⟨S128x4, .f32⟩
  | 58 => ⟨S1x1x32, .f32⟩
  | 59 => ⟨S32, .f32⟩
  | 60 => ⟨S_, .i32⟩
  | 61 => ⟨S1, .i32⟩
  | 62 => ⟨S_, .i32⟩
  | 63 => ⟨S1, .i32⟩
  | 64 => ⟨S2, .i32⟩
  | 65 => ⟨S128x4, .f32⟩
  | 66 => ⟨S1x1x32, .f32⟩
  | 67 => ⟨S32, .f32⟩
  | 68 => ⟨S_, .i32⟩
  | 69 => ⟨S1, .i32⟩
  | 70 => ⟨S_, .i32⟩
  | 71 => ⟨S1, .i32⟩
  | 72 => ⟨S2, .i32⟩
  | 73 => ⟨S128x4, .f32⟩
  | 74 => ⟨S1x1x32, .f32⟩
  | 75 => ⟨S32, .f32⟩
  | 76 => ⟨S_, .i32⟩
  | 77 => ⟨S1, .i32⟩
  | 78 => ⟨S_, .i32⟩
  | 79 => ⟨S1, .i32⟩
  | 80 => ⟨S2, .i32⟩
  | 81 => ⟨S128x4, .f32⟩
  | 82 => ⟨S1x1x32, .f32⟩
  | 83 => ⟨S32, .f32⟩
  | 84 => ⟨S_, .i32⟩
  | 85 => ⟨S1, .i32⟩
  | 86 => ⟨S_, .i32⟩
  | 87 => ⟨S1, .i32⟩
  | 88 => ⟨S2, .i32⟩
  | 89 => ⟨S128x4, .f32⟩
  | 90 => ⟨S128x16, .f32⟩
  | 91 => ⟨S_, .f32⟩
  | 92 => ⟨S128x4, .f32⟩
  | 93 => ⟨S1x1x32, .f32⟩
  | 94 => ⟨S32, .f32⟩
  | 95 => ⟨S_, .i32⟩
  | 96 => ⟨S1, .i32⟩
  | 97 => ⟨S_, .i32⟩
  | 98 => ⟨S1, .i32⟩
  | 99 => ⟨S2, .i32⟩
  | 100 => ⟨S128x4, .f32⟩
  | 101 => ⟨S1x1x32, .f32⟩
  | 102 => ⟨S32, .f32⟩
  | 103 => ⟨S_, .i32⟩
  | 104 => ⟨S1, .i32⟩
  | 105 => ⟨S_, .i32⟩
  | 106 => ⟨S1, .i32⟩
  | 107 => ⟨S2, .i32⟩
  | 108 => ⟨S128x4, .f32⟩
  | 109 => ⟨S1x1x32, .f32⟩
  | 110 => ⟨S32, .f32⟩
  | 111 => ⟨S_, .i32⟩
  | 112 => ⟨S1, .i32⟩
  | 113 => ⟨S_, .i32⟩
  | 114 => ⟨S1, .i32⟩
  | 115 => ⟨S2, .i32⟩
  | 116 => ⟨S128x4, .f32⟩
  | 117 => ⟨S1x1x32, .f32⟩
  | 118 => ⟨S32, .f32⟩
  | 119 => ⟨S_, .i32⟩
  | 120 => ⟨S1, .i32⟩
  | 121 => ⟨S_, .i32⟩
  | 122 => ⟨S1, .i32⟩
  | 123 => ⟨S2, .i32⟩
  | 124 => ⟨S128x4, .f32⟩
  | 125 => ⟨S_, .f32⟩
  | 126 => ⟨S128x4, .f32⟩
  | 127 => ⟨S1x1x32, .f32⟩
  | _ => ⟨S50000x128, .f32⟩

abbrev hbmTy0_1 (i : Nat) : BufTy := match i % 128 with
  | 0 => ⟨S32, .f32⟩
  | 1 => ⟨S_, .i32⟩
  | 2 => ⟨S1, .i32⟩
  | 3 => ⟨S_, .i32⟩
  | 4 => ⟨S1, .i32⟩
  | 5 => ⟨S2, .i32⟩
  | 6 => ⟨S128x4, .f32⟩
  | 7 => ⟨S1x1x32, .f32⟩
  | 8 => ⟨S32, .f32⟩
  | 9 => ⟨S_, .i32⟩
  | 10 => ⟨S1, .i32⟩
  | 11 => ⟨S_, .i32⟩
  | 12 => ⟨S1, .i32⟩
  | 13 => ⟨S2, .i32⟩
  | 14 => ⟨S128x4, .f32⟩
  | 15 => ⟨S1x1x32, .f32⟩
  | 16 => ⟨S32, .f32⟩
  | 17 => ⟨S_, .i32⟩
  | 18 => ⟨S1, .i32⟩
  | 19 => ⟨S_, .i32⟩
  | 20 => ⟨S1, .i32⟩
  | 21 => ⟨S2, .i32⟩
  | 22 => ⟨S128x4, .f32⟩
  | 23 => ⟨S1x1x32, .f32⟩
  | 24 => ⟨S32, .f32⟩
  | 25 => ⟨S_, .i32⟩
  | 26 => ⟨S1, .i32⟩
  | 27 => ⟨S_, .i32⟩
  | 28 => ⟨S1, .i32⟩
  | 29 => ⟨S2, .i32⟩
  | 30 => ⟨S128x4, .f32⟩
  | 31 => ⟨S128x16, .f32⟩
  | 32 => ⟨S256x16, .f32⟩
  | 33 => ⟨S50000x128, .f32⟩
  | 34 => ⟨S50000x128, .f32⟩
  | 35 => ⟨S50000x16, .f32⟩
  | 36 => ⟨S200x16, .f32⟩
  | 37 => ⟨S_, .f32⟩
  | 38 => ⟨S16, .f32⟩
  | 39 => ⟨S4, .f32⟩
  | 40 => ⟨S4, .f32⟩
  | 41 => ⟨S4, .f32⟩
  | 42 => ⟨S_, .f32⟩
  | 43 => ⟨S4, .f32⟩
  | 44 => ⟨S4, .f32⟩
  | 45 => ⟨S4, .f32⟩
  | 46 => ⟨S4, .f32⟩
  | 47 => ⟨S4, .f32⟩
  | 48 => ⟨S_, .f32⟩
  | 49 => ⟨S4, .f32⟩
  | 50 => ⟨S4, .f32⟩
  | 51 => ⟨S8, .f32⟩
  | 52 => ⟨S1x8, .f32⟩
  | 53 => ⟨S_, .f32⟩
  | 54 => ⟨S1x8, .f32⟩
  | 55 => ⟨S1x16, .f32⟩
  | 56 => ⟨S50000x4, .f32⟩
  | 57 => ⟨S50000x4, .f32⟩
  | 58 => ⟨S1x4, .f32⟩
  | 59 => ⟨S4, .f32⟩
  | 60 => ⟨S_, .i32⟩
  | 61 => ⟨S256000, .i32⟩
  | 62 => ⟨S256000, .i1⟩
  | 63 => ⟨S_, .i32⟩
  | 64 => ⟨S256000, .i32⟩
  | 65 => ⟨S256000, .i32⟩
  | 66 => ⟨S256000, .i32⟩
  | 67 => ⟨S256000x1, .i32⟩
  | 68 => ⟨S256000x4, .f32⟩
  | 69 => ⟨S_, .i32⟩
  | 70 => ⟨S256000, .i32⟩
  | 71 => ⟨S256000, .i1⟩
  | 72 => ⟨S_, .i32⟩
  | 73 => ⟨S256000, .i32⟩
  | 74 => ⟨S256000, .i32⟩
  | 75 => ⟨S256000, .i32⟩
  | 76 => ⟨S256000x1, .i32⟩
  | 77 => ⟨S256000x4, .f32⟩
  | 78 => ⟨S256000x4, .f32⟩
  | 79 => ⟨S_, .f32⟩
  | 80 => ⟨S256000x4, .f32⟩
  | 81 => ⟨S256000x4, .i1⟩
  | 82 => ⟨S_, .f32⟩
  | 83 => ⟨S256000x4, .f32⟩
  | 84 => ⟨S256000x4, .f32⟩
  | 85 => ⟨S256000x4, .f32⟩
  | 86 => ⟨S1x4, .f32⟩
  | 87 => ⟨S256000x4, .f32⟩
  | 88 => ⟨S256000x4, .f32⟩
  | 89 => ⟨S256000x4, .f32⟩
  | 90 => ⟨S_, .f32⟩
  | 91 => ⟨S50000x4, .f32⟩
  | 92 => ⟨S256000x1, .i32⟩
  | 93 => ⟨S50000x4, .f32⟩
  | 94 => ⟨S50000x4x32, .f32⟩
  | 95 => ⟨S256000x4x1, .f32⟩
  | 96 => ⟨S_, .i32⟩
  | 97 => ⟨S256000, .i32⟩
  | 98 => ⟨S256000, .i1⟩
  | 99 => ⟨S_, .i32⟩
  | 100 => ⟨S256000, .i32⟩
  | 101 => ⟨S256000, .i32⟩
  | 102 => ⟨S256000, .i32⟩
  | 103 => ⟨S256000x1, .i32⟩
  | 104 => ⟨S256000x4x32, .f32⟩
  | 105 => ⟨S256000x4x32, .f32⟩
  | 106 => ⟨S256000x4x32, .f32⟩
  | 107 => ⟨S_, .f32⟩
  | 108 => ⟨S50000x4x32, .f32⟩
  | 109 => ⟨S256000x1, .i32⟩
  | 110 => ⟨S50000x4x32, .f32⟩
  | 111 => ⟨S50000x1x32, .f32⟩
  | 112 => ⟨S50000x32, .f32⟩
  | 113 => ⟨S50000x1x32, .f32⟩
  | 114 => ⟨S50000x32, .f32⟩
  | 115 => ⟨S50000x1x32, .f32⟩
  | 116 => ⟨S50000x32, .f32⟩
  | 117 => ⟨S50000x1x32, .f32⟩
  | 118 => ⟨S50000x32, .f32⟩
  | 119 => ⟨S50000x4, .f32⟩
  | 120 => ⟨S50000x4, .f32⟩
  | 121 => ⟨S1x4, .f32⟩
  | 122 => ⟨S4, .f32⟩
  | 123 => ⟨S_, .i32⟩
  | 124 => ⟨S256000, .i32⟩
  | 125 => ⟨S256000, .i1⟩
  | 126 => ⟨S_, .i32⟩
  | 127 => ⟨S256000, .i32⟩
  | _ => ⟨S50000x128, .f32⟩

abbrev hbmTy0_2 (i : Nat) : BufTy := match i % 128 with
  | 0 => ⟨S256000, .i32⟩
  | 1 => ⟨S256000, .i32⟩
  | 2 => ⟨S256000x1, .i32⟩
  | 3 => ⟨S256000x4, .f32⟩
  | 4 => ⟨S_, .i32⟩
  | 5 => ⟨S256000, .i32⟩
  | 6 => ⟨S256000, .i1⟩
  | 7 => ⟨S_, .i32⟩
  | 8 => ⟨S256000, .i32⟩
  | 9 => ⟨S256000, .i32⟩
  | 10 => ⟨S256000, .i32⟩
  | 11 => ⟨S256000x1, .i32⟩
  | 12 => ⟨S256000x4, .f32⟩
  | 13 => ⟨S256000x4, .f32⟩
  | 14 => ⟨S_, .f32⟩
  | 15 => ⟨S256000x4, .f32⟩
  | 16 => ⟨S256000x4, .i1⟩
  | 17 => ⟨S_, .f32⟩
  | 18 => ⟨S256000x4, .f32⟩
  | 19 => ⟨S256000x4, .f32⟩
  | 20 => ⟨S256000x4, .f32⟩
  | 21 => ⟨S1x4, .f32⟩
  | 22 => ⟨S256000x4, .f32⟩
  | 23 => ⟨S256000x4, .f32⟩
  | 24 => ⟨S256000x4, .f32⟩
  | 25 => ⟨S_, .f32⟩
  | 26 => ⟨S50000x4, .f32⟩
  | 27 => ⟨S256000x1, .i32⟩
  | 28 => ⟨S50000x4, .f32⟩
  | 29 => ⟨S50000x4x32, .f32⟩
  | 30 => ⟨S256000x4x1, .f32⟩
  | 31 => ⟨S_, .i32⟩
  | 32 => ⟨S256000, .i32⟩
  | 33 => ⟨S256000, .i1⟩
  | 34 => ⟨S_, .i32⟩
  | 35 => ⟨S256000, .i32⟩
  | 36 => ⟨S256000, .i32⟩
  | 37 => ⟨S256000, .i32⟩
  | 38 => ⟨S256000x1, .i32⟩
  | 39 => ⟨S256000x4x32, .f32⟩
  | 40 => ⟨S256000x4x32, .f32⟩
  | 41 => ⟨S256000x4x32, .f32⟩
  | 42 => ⟨S_, .f32⟩
  | 43 => ⟨S50000x4x32, .f32⟩
  | 44 => ⟨S256000x1, .i32⟩
  | 45 => ⟨S50000x4x32, .f32⟩
  | 46 => ⟨S50000x1x32, .f32⟩
  | 47 => ⟨S50000x32, .f32⟩
  | 48 => ⟨S50000x1x32, .f32⟩
  | 49 => ⟨S50000x32, .f32⟩
  | 50 => ⟨S50000x1x32, .f32⟩
  | 51 => ⟨S50000x32, .f32⟩
  | 52 => ⟨S50000x1x32, .f32⟩
  | 53 => ⟨S50000x32, .f32⟩
  | 54 => ⟨S128, .f32⟩
  | 55 => ⟨S1x128, .f32⟩
  | 56 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S256x16, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x16, .f32⟩
  | .local _ .vmem, ⟨9, _⟩ => ⟨S2000x16, .f32⟩
  | .local _ .vmem, ⟨10, _⟩ => ⟨S8x16, .f32⟩
  | .local _ .vmem, ⟨11, _⟩ => ⟨S8x16, .f32⟩
  | .local _ .vmem, ⟨12, _⟩ => ⟨S2000x16, .f32⟩
  | .local _ .vmem, ⟨13, _⟩ => ⟨S2000x16, .f32⟩
  | .local _ .vmem, ⟨14, _⟩ => ⟨S1x16, .f32⟩
  | .local _ .vmem, ⟨15, _⟩ => ⟨S2000x4, .f32⟩
  | .local _ .vmem, ⟨16, _⟩ => ⟨S2000x4, .f32⟩
  | .local _ .vmem, ⟨17, _⟩ => ⟨S2000x4, .f32⟩
  | .local _ .vmem, ⟨18, _⟩ => ⟨S2000x4, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S2000x32, .f32⟩
  | .local _ .vmem, ⟨36, _⟩ => ⟨S2000x32, .f32⟩
  | .local _ .vmem, ⟨37, _⟩ => ⟨S2000x32, .f32⟩
  | .local _ .vmem, ⟨38, _⟩ => ⟨S2000x32, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_c_12 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_c_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_15 : Ref sig .tc := ⟨.hbm, 84, rfl⟩
abbrev main_v56 : Ref sig .tc := ⟨.hbm, 85, rfl⟩
abbrev main_c_16 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_17 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_18 : Ref sig .tc := ⟨.hbm, 95, rfl⟩
abbrev main_v64 : Ref sig .tc := ⟨.hbm, 96, rfl⟩
abbrev main_c_19 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_20 : Ref sig .tc := ⟨.hbm, 103, rfl⟩
abbrev main_v70 : Ref sig .tc := ⟨.hbm, 104, rfl⟩
abbrev main_c_21 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_22 : Ref sig .tc := ⟨.hbm, 111, rfl⟩
abbrev main_v76 : Ref sig .tc := ⟨.hbm, 112, rfl⟩
abbrev main_c_23 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_24 : Ref sig .tc := ⟨.hbm, 119, rfl⟩
abbrev main_v82 : Ref sig .tc := ⟨.hbm, 120, rfl⟩
abbrev main_c_25 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_26 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_27 : Ref sig .tc := ⟨.hbm, 129, rfl⟩
abbrev main_v89 : Ref sig .tc := ⟨.hbm, 130, rfl⟩
abbrev main_c_28 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_29 : Ref sig .tc := ⟨.hbm, 137, rfl⟩
abbrev main_v95 : Ref sig .tc := ⟨.hbm, 138, rfl⟩
abbrev main_c_30 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_31 : Ref sig .tc := ⟨.hbm, 145, rfl⟩
abbrev main_v101 : Ref sig .tc := ⟨.hbm, 146, rfl⟩
abbrev main_c_32 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_c_33 : Ref sig .tc := ⟨.hbm, 153, rfl⟩
abbrev main_v107 : Ref sig .tc := ⟨.hbm, 154, rfl⟩
abbrev main_c_34 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113_0 : Ref sig .tc := ⟨.hbm, 161, rfl⟩
abbrev main_v113_1 : Ref sig .tc := ⟨.hbm, 162, rfl⟩
abbrev main_v113_2 : Ref sig .tc := ⟨.hbm, 163, rfl⟩
abbrev main_v113_3 : Ref sig .tc := ⟨.hbm, 164, rfl⟩
abbrev main_cst_35 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_call0_cst : Ref sig .tc := ⟨.hbm, 170, rfl⟩
abbrev main_call0_v0 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_call1_cst : Ref sig .tc := ⟨.hbm, 176, rfl⟩
abbrev main_call1_v0 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_36 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_c_37 : Ref sig .tc := ⟨.hbm, 188, rfl⟩
abbrev main_v131 : Ref sig .tc := ⟨.hbm, 189, rfl⟩
abbrev main_v132 : Ref sig .tc := ⟨.hbm, 190, rfl⟩
abbrev main_c_38 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_c_39 : Ref sig .tc := ⟨.hbm, 197, rfl⟩
abbrev main_v138 : Ref sig .tc := ⟨.hbm, 198, rfl⟩
abbrev main_v139 : Ref sig .tc := ⟨.hbm, 199, rfl⟩
abbrev main_c_40 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_cst_41 : Ref sig .tc := ⟨.hbm, 207, rfl⟩
abbrev main_v146 : Ref sig .tc := ⟨.hbm, 208, rfl⟩
abbrev main_v147 : Ref sig .tc := ⟨.hbm, 209, rfl⟩
abbrev main_cst_42 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_cst_43 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_c_44 : Ref sig .tc := ⟨.hbm, 224, rfl⟩
abbrev main_v160 : Ref sig .tc := ⟨.hbm, 225, rfl⟩
abbrev main_v161 : Ref sig .tc := ⟨.hbm, 226, rfl⟩
abbrev main_c_45 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_cst_46 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_c_47 : Ref sig .tc := ⟨.hbm, 251, rfl⟩
abbrev main_v184 : Ref sig .tc := ⟨.hbm, 252, rfl⟩
abbrev main_v185 : Ref sig .tc := ⟨.hbm, 253, rfl⟩
abbrev main_c_48 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_c_49 : Ref sig .tc := ⟨.hbm, 260, rfl⟩
abbrev main_v191 : Ref sig .tc := ⟨.hbm, 261, rfl⟩
abbrev main_v192 : Ref sig .tc := ⟨.hbm, 262, rfl⟩
abbrev main_c_50 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_cst_51 : Ref sig .tc := ⟨.hbm, 270, rfl⟩
abbrev main_v199 : Ref sig .tc := ⟨.hbm, 271, rfl⟩
abbrev main_v200 : Ref sig .tc := ⟨.hbm, 272, rfl⟩
abbrev main_cst_52 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_cst_53 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_c_54 : Ref sig .tc := ⟨.hbm, 287, rfl⟩
abbrev main_v213 : Ref sig .tc := ⟨.hbm, 288, rfl⟩
abbrev main_v214 : Ref sig .tc := ⟨.hbm, 289, rfl⟩
abbrev main_c_55 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_cst_56 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc1_stg12_1 : Ref sig .tc := ⟨.vmem, 36, rfl⟩
abbrev cc1_stg13_0 : Ref sig .tc := ⟨.vmem, 37, rfl⟩
abbrev cc1_stg13_1 : Ref sig .tc := ⟨.vmem, 38, rfl⟩
abbrev cc1_stg14_0 : Ref sig .tc := ⟨.vmem, 39, rfl⟩
abbrev cc1_stg15_0 : Ref sig .tc := ⟨.vmem, 40, rfl⟩
abbrev cc1_stg15_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34
abbrev cc1_sem12_0 : DmaSem sig := 35
abbrev cc1_sem12_1 : DmaSem sig := 36
abbrev cc1_sem13_0 : DmaSem sig := 37
abbrev cc1_sem13_1 : DmaSem sig := 38
abbrev cc1_sem14_0 : DmaSem sig := 39
abbrev cc1_sem15_0 : DmaSem sig := 40
abbrev cc1_sem15_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x32 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x32 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2000x32 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== Reference.lean ====
abbrev S50000x128 : Shape := ⟨2, ![50000, 128]⟩
abbrev S2x256000 : Shape := ⟨2, ![2, 256000]⟩
abbrev S128x128 : Shape := ⟨2, ![128, 128]⟩
abbrev S1x4x32 : Shape := ⟨3, ![1, 4, 32]⟩
abbrev S128 : Shape := ⟨1, ![128]⟩
abbrev S50000x4x32 : Shape := ⟨3, ![50000, 4, 32]⟩
abbrev S50000 : Shape := ⟨1, ![50000]⟩
abbrev S1x256000 : Shape := ⟨2, ![1, 256000]⟩
abbrev S256000 : Shape := ⟨1, ![256000]⟩
abbrev S306000 : Shape := ⟨1, ![306000]⟩
abbrev S_ : Shape := ⟨0, ![]⟩
abbrev S50000x4 : Shape := ⟨2, ![50000, 4]⟩
abbrev S306000x1 : Shape := ⟨2, ![306000, 1]⟩
abbrev S306000x4 : Shape := ⟨2, ![306000, 4]⟩
abbrev S1x50000 : Shape := ⟨2, ![1, 50000]⟩
abbrev S306000x50000 : Shape := ⟨2, ![306000, 50000]⟩
abbrev S306000x50000x1 : Shape := ⟨3, ![306000, 50000, 1]⟩
abbrev S306000x1x4 : Shape := ⟨3, ![306000, 1, 4]⟩
abbrev S306000x50000x4 : Shape := ⟨3, ![306000, 50000, 4]⟩
abbrev S4 : Shape := ⟨1, ![4]⟩
abbrev S1x4 : Shape := ⟨2, ![1, 4]⟩
abbrev S306000x4x32 : Shape := ⟨3, ![306000, 4, 32]⟩
abbrev S306000x4x1 : Shape := ⟨3, ![306000, 4, 1]⟩
abbrev S1x128 : Shape := ⟨2, ![1, 128]⟩

abbrev nBuf : Space → Nat
  | .hbm => 268
  | .vmem => 0
  | .smem => 0
  | _ => 0

abbrev hbmTy0_0 (i : Nat) : BufTy := match i % 128 with
  | 0 => ⟨S50000x128, .f32⟩
  | 1 => ⟨S2x256000, .i32⟩
  | 2 => ⟨S2x256000, .i32⟩
  | 3 => ⟨S128x128, .f32⟩
  | 4 => ⟨S1x4x32, .f32⟩
  | 5 => ⟨S1x4x32, .f32⟩
  | 6 => ⟨S128, .f32⟩
  | 7 => ⟨S128x128, .f32⟩
  | 8 => ⟨S1x4x32, .f32⟩
  | 9 => ⟨S1x4x32, .f32⟩
  | 10 => ⟨S128, .f32⟩
  | 11 => ⟨S50000x128, .f32⟩
  | 12 => ⟨S50000x4x32, .f32⟩
  | 13 => ⟨S50000, .i32⟩
  | 14 => ⟨S1x256000, .i32⟩
  | 15 => ⟨S256000, .i32⟩
  | 16 => ⟨S306000, .i32⟩
  | 17 => ⟨S1x256000, .i32⟩
  | 18 => ⟨S256000, .i32⟩
  | 19 => ⟨S306000, .i32⟩
  | 20 => ⟨S50000x4x32, .f32⟩
  | 21 => ⟨S50000x4x32, .f32⟩
  | 22 => ⟨S_, .f32⟩
  | 23 => ⟨S50000x4, .f32⟩
  | 24 => ⟨S50000x4x32, .f32⟩
  | 25 => ⟨S50000x4x32, .f32⟩
  | 26 => ⟨S_, .f32⟩
  | 27 => ⟨S50000x4, .f32⟩
  | 28 => ⟨S_, .i32⟩
  | 29 => ⟨S306000, .i32⟩
  | 30 => ⟨S306000, .i1⟩
  | 31 => ⟨S_, .i32⟩
  | 32 => ⟨S306000, .i32⟩
  | 33 => ⟨S306000, .i32⟩
  | 34 => ⟨S306000, .i32⟩
  | 35 => ⟨S306000x1, .i32⟩
  | 36 => ⟨S306000x4, .f32⟩
  | 37 => ⟨S_, .i32⟩
  | 38 => ⟨S306000, .i32⟩
  | 39 => ⟨S306000, .i1⟩
  | 40 => ⟨S_, .i32⟩
  | 41 => ⟨S306000, .i32⟩
  | 42 => ⟨S306000, .i32⟩
  | 43 => ⟨S306000, .i32⟩
  | 44 => ⟨S306000x1, .i32⟩
  | 45 => ⟨S306000x4, .f32⟩
  | 46 => ⟨S306000x4, .f32⟩
  | 47 => ⟨S_, .f32⟩
  | 48 => ⟨S_, .f32⟩
  | 49 => ⟨S306000x4, .f32⟩
  | 50 => ⟨S306000x4, .i1⟩
  | 51 => ⟨S_, .f32⟩
  | 52 => ⟨S306000x4, .f32⟩
  | 53 => ⟨S306000x4, .f32⟩
  | 54 => ⟨S306000x4, .f32⟩
  | 55 => ⟨S306000x1, .i32⟩
  | 56 => ⟨S1x50000, .i32⟩
  | 57 => ⟨S306000x50000, .i32⟩
  | 58 => ⟨S306000x50000, .i32⟩
  | 59 => ⟨S306000x50000, .i1⟩
  | 60 => ⟨S306000x50000x1, .i1⟩
  | 61 => ⟨S306000x1x4, .f32⟩
  | 62 => ⟨S_, .f32⟩
  | 63 => ⟨S_, .f32⟩
  | 64 => ⟨S306000x50000x4, .i1⟩
  | 65 => ⟨S306000x50000x4, .f32⟩
  | 66 => ⟨S306000x50000x4, .f32⟩
  | 67 => ⟨S306000x50000x4, .f32⟩
  | 68 => ⟨S_, .f32⟩
  | 69 => ⟨S50000x4, .f32⟩
  | 70 => ⟨S50000x4, .f32⟩
  | 71 => ⟨S_, .f32⟩
  | 72 => ⟨S50000x4, .f32⟩
  | 73 => ⟨S50000x4, .i1⟩
  | 74 => ⟨S_, .f32⟩
  | 75 => ⟨S_, .f32⟩
  | 76 => ⟨S50000x4, .f32⟩
  | 77 => ⟨S50000x4, .f32⟩
  | 78 => ⟨S_, .i32⟩
  | 79 => ⟨S306000, .i32⟩
  | 80 => ⟨S306000, .i1⟩
  | 81 => ⟨S_, .i32⟩
  | 82 => ⟨S306000, .i32⟩
  | 83 => ⟨S306000, .i32⟩
  | 84 => ⟨S306000, .i32⟩
  | 85 => ⟨S306000x1, .i32⟩
  | 86 => ⟨S306000x4, .f32⟩
  | 87 => ⟨S306000x4, .f32⟩
  | 88 => ⟨S306000x4, .f32⟩
  | 89 => ⟨S_, .f32⟩
  | 90 => ⟨S50000x4, .f32⟩
  | 91 => ⟨S306000x1, .i32⟩
  | 92 => ⟨S50000x4, .f32⟩
  | 93 => ⟨S_, .f32⟩
  | 94 => ⟨S4, .f32⟩
  | 95 => ⟨S_, .f32⟩
  | 96 => ⟨S4, .f32⟩
  | 97 => ⟨S4, .f32⟩
  | 98 => ⟨S_, .f32⟩
  | 99 => ⟨S4, .f32⟩
  | 100 => ⟨S4, .f32⟩
  | 101 => ⟨S1x4, .f32⟩
  | 102 => ⟨S50000x4, .f32⟩
  | 103 => ⟨S50000x4, .f32⟩
  | 104 => ⟨S50000x4, .f32⟩
  | 105 => ⟨S_, .f32⟩
  | 106 => ⟨S50000x4, .f32⟩
  | 107 => ⟨S50000x4, .f32⟩
  | 108 => ⟨S50000x4, .f32⟩
  | 109 => ⟨S_, .i32⟩
  | 110 => ⟨S306000, .i32⟩
  | 111 => ⟨S306000, .i1⟩
  | 112 => ⟨S_, .i32⟩
  | 113 => ⟨S306000, .i32⟩
  | 114 => ⟨S306000, .i32⟩
  | 115 => ⟨S306000, .i32⟩
  | 116 => ⟨S306000x1, .i32⟩
  | 117 => ⟨S306000x4, .f32⟩
  | 118 => ⟨S306000x4, .f32⟩
  | 119 => ⟨S_, .i32⟩
  | 120 => ⟨S306000, .i32⟩
  | 121 => ⟨S306000, .i1⟩
  | 122 => ⟨S_, .i32⟩
  | 123 => ⟨S306000, .i32⟩
  | 124 => ⟨S306000, .i32⟩
  | 125 => ⟨S306000, .i32⟩
  | 126 => ⟨S306000x1, .i32⟩
  | 127 => ⟨S306000x4x32, .f32⟩
  | _ => ⟨S50000x128, .f32⟩

abbrev hbmTy0_1 (i : Nat) : BufTy := match i % 128 with
  | 0 => ⟨S306000x4x1, .f32⟩
  | 1 => ⟨S306000x4x32, .f32⟩
  | 2 => ⟨S306000x4x32, .f32⟩
  | 3 => ⟨S_, .f32⟩
  | 4 => ⟨S50000x4x32, .f32⟩
  | 5 => ⟨S306000x1, .i32⟩
  | 6 => ⟨S50000x4x32, .f32⟩
  | 7 => ⟨S50000x128, .f32⟩
  | 8 => ⟨S1x128, .f32⟩
  | 9 => ⟨S50000x128, .f32⟩
  | 10 => ⟨S50000x128, .f32⟩
  | 11 => ⟨S50000x128, .f32⟩
  | 12 => ⟨S50000x4x32, .f32⟩
  | 13 => ⟨S50000, .i32⟩
  | 14 => ⟨S1x256000, .i32⟩
  | 15 => ⟨S256000, .i32⟩
  | 16 => ⟨S306000, .i32⟩
  | 17 => ⟨S1x256000, .i32⟩
  | 18 => ⟨S256000, .i32⟩
  | 19 => ⟨S306000, .i32⟩
  | 20 => ⟨S50000x4x32, .f32⟩
  | 21 => ⟨S50000x4x32, .f32⟩
  | 22 => ⟨S_, .f32⟩
  | 23 => ⟨S50000x4, .f32⟩
  | 24 => ⟨S50000x4x32, .f32⟩
  | 25 => ⟨S50000x4x32, .f32⟩
  | 26 => ⟨S_, .f32⟩
  | 27 => ⟨S50000x4, .f32⟩
  | 28 => ⟨S_, .i32⟩
  | 29 => ⟨S306000, .i32⟩
  | 30 => ⟨S306000, .i1⟩
  | 31 => ⟨S_, .i32⟩
  | 32 => ⟨S306000, .i32⟩
  | 33 => ⟨S306000, .i32⟩
  | 34 => ⟨S306000, .i32⟩
  | 35 => ⟨S306000x1, .i32⟩
  | 36 => ⟨S306000x4, .f32⟩
  | 37 => ⟨S_, .i32⟩
  | 38 => ⟨S306000, .i32⟩
  | 39 => ⟨S306000, .i1⟩
  | 40 => ⟨S_, .i32⟩
  | 41 => ⟨S306000, .i32⟩
  | 42 => ⟨S306000, .i32⟩
  | 43 => ⟨S306000, .i32⟩
  | 44 => ⟨S306000x1, .i32⟩
  | 45 => ⟨S306000x4, .f32⟩
  | 46 => ⟨S306000x4, .f32⟩
  | 47 => ⟨S_, .f32⟩
  | 48 => ⟨S_, .f32⟩
  | 49 => ⟨S306000x4, .f32⟩
  | 50 => ⟨S306000x4, .i1⟩
  | 51 => ⟨S_, .f32⟩
  | 52 => ⟨S306000x4, .f32⟩
  | 53 => ⟨S306000x4, .f32⟩
  | 54 => ⟨S306000x4, .f32⟩
  | 55 => ⟨S306000x1, .i32⟩
  | 56 => ⟨S1x50000, .i32⟩
  | 57 => ⟨S306000x50000, .i32⟩
  | 58 => ⟨S306000x50000, .i32⟩
  | 59 => ⟨S306000x50000, .i1⟩
  | 60 => ⟨S306000x50000x1, .i1⟩
  | 61 => ⟨S306000x1x4, .f32⟩
  | 62 => ⟨S_, .f32⟩
  | 63 => ⟨S_, .f32⟩
  | 64 => ⟨S306000x50000x4, .i1⟩
  | 65 => ⟨S306000x50000x4, .f32⟩
  | 66 => ⟨S306000x50000x4, .f32⟩
  | 67 => ⟨S306000x50000x4, .f32⟩
  | 68 => ⟨S_, .f32⟩
  | 69 => ⟨S50000x4, .f32⟩
  | 70 => ⟨S50000x4, .f32⟩
  | 71 => ⟨S_, .f32⟩
  | 72 => ⟨S50000x4, .f32⟩
  | 73 => ⟨S50000x4, .i1⟩
  | 74 => ⟨S_, .f32⟩
  | 75 => ⟨S_, .f32⟩
  | 76 => ⟨S50000x4, .f32⟩
  | 77 => ⟨S50000x4, .f32⟩
  | 78 => ⟨S_, .i32⟩
  | 79 => ⟨S306000, .i32⟩
  | 80 => ⟨S306000, .i1⟩
  | 81 => ⟨S_, .i32⟩
  | 82 => ⟨S306000, .i32⟩
  | 83 => ⟨S306000, .i32⟩
  | 84 => ⟨S306000, .i32⟩
  | 85 => ⟨S306000x1, .i32⟩
  | 86 => ⟨S306000x4, .f32⟩
  | 87 => ⟨S306000x4, .f32⟩
  | 88 => ⟨S306000x4, .f32⟩
  | 89 => ⟨S_, .f32⟩
  | 90 => ⟨S50000x4, .f32⟩
  | 91 => ⟨S306000x1, .i32⟩
  | 92 => ⟨S50000x4, .f32⟩
  | 93 => ⟨S_, .f32⟩
  | 94 => ⟨S4, .f32⟩
  | 95 => ⟨S_, .f32⟩
  | 96 => ⟨S4, .f32⟩
  | 97 => ⟨S4, .f32⟩
  | 98 => ⟨S_, .f32⟩
  | 99 => ⟨S4, .f32⟩
  | 100 => ⟨S4, .f32⟩
  | 101 => ⟨S1x4, .f32⟩
  | 102 => ⟨S50000x4, .f32⟩
  | 103 => ⟨S50000x4, .f32⟩
  | 104 => ⟨S50000x4, .f32⟩
  | 105 => ⟨S_, .f32⟩
  | 106 => ⟨S50000x4, .f32⟩
  | 107 => ⟨S50000x4, .f32⟩
  | 108 => ⟨S50000x4, .f32⟩
  | 109 => ⟨S_, .i32⟩
  | 110 => ⟨S306000, .i32⟩
  | 111 => ⟨S306000, .i1⟩
  | 112 => ⟨S_, .i32⟩
  | 113 => ⟨S306000, .i32⟩
  | 114 => ⟨S306000, .i32⟩
  | 115 => ⟨S306000, .i32⟩
  | 116 => ⟨S306000x1, .i32⟩
  | 117 => ⟨S306000x4, .f32⟩
  | 118 => ⟨S306000x4, .f32⟩
  | 119 => ⟨S_, .i32⟩
  | 120 => ⟨S306000, .i32⟩
  | 121 => ⟨S306000, .i1⟩
  | 122 => ⟨S_, .i32⟩
  | 123 => ⟨S306000, .i32⟩
  | 124 => ⟨S306000, .i32⟩
  | 125 => ⟨S306000, .i32⟩
  | 126 => ⟨S306000x1, .i32⟩
  | 127 => ⟨S306000x4x32, .f32⟩
  | _ => ⟨S50000x128, .f32⟩

abbrev hbmTy0_2 (i : Nat) : BufTy := match i % 128 with
  | 0 => ⟨S306000x4x1, .f32⟩
  | 1 => ⟨S306000x4x32, .f32⟩
  | 2 => ⟨S306000x4x32, .f32⟩
  | 3 => ⟨S_, .f32⟩
  | 4 => ⟨S50000x4x32, .f32⟩
  | 5 => ⟨S306000x1, .i32⟩
  | 6 => ⟨S50000x4x32, .f32⟩
  | 7 => ⟨S50000x128, .f32⟩
  | 8 => ⟨S1x128, .f32⟩
  | 9 => ⟨S50000x128, .f32⟩
  | 10 => ⟨S50000x128, .f32⟩
  | 11 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_call2_v0 : Ref sig .tc := ⟨.hbm, 75, rfl⟩
abbrev main_call2_v1 : Ref sig .tc := ⟨.hbm, 76, rfl⟩
abbrev main_v43 : Ref sig .tc := ⟨.hbm, 77, rfl⟩
abbrev main_c_9 : Ref sig .tc := ⟨.hbm, 78, rfl⟩
abbrev main_v44 : Ref sig .tc := ⟨.hbm, 79, rfl⟩
abbrev main_v45 : Ref sig .tc := ⟨.hbm, 80, rfl⟩
abbrev main_c_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_12 : Ref sig .tc := ⟨.hbm, 93, rfl⟩
abbrev main_v56 : Ref sig .tc := ⟨.hbm, 94, rfl⟩
abbrev main_cst_13 : Ref sig .tc := ⟨.hbm, 95, rfl⟩
abbrev main_v57 : Ref sig .tc := ⟨.hbm, 96, rfl⟩
abbrev main_v58 : Ref sig .tc := ⟨.hbm, 97, rfl⟩
abbrev main_call3_cst : Ref sig .tc := ⟨.hbm, 98, rfl⟩
abbrev main_call3_v0 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_14 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_15 : Ref sig .tc := ⟨.hbm, 109, rfl⟩
abbrev main_v67 : Ref sig .tc := ⟨.hbm, 110, rfl⟩
abbrev main_v68 : Ref sig .tc := ⟨.hbm, 111, rfl⟩
abbrev main_c_16 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_17 : Ref sig .tc := ⟨.hbm, 119, rfl⟩
abbrev main_v75 : Ref sig .tc := ⟨.hbm, 120, rfl⟩
abbrev main_v76 : Ref sig .tc := ⟨.hbm, 121, rfl⟩
abbrev main_c_18 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_19 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_20 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_21 : Ref sig .tc := ⟨.hbm, 154, rfl⟩
abbrev main_v106 : Ref sig .tc := ⟨.hbm, 155, rfl⟩
abbrev main_c_22 : Ref sig .tc := ⟨.hbm, 156, rfl⟩
abbrev main_v107 : Ref sig .tc := ⟨.hbm, 157, rfl⟩
abbrev main_v108 : Ref sig .tc := ⟨.hbm, 158, rfl⟩
abbrev main_c_23 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_c_24 : Ref sig .tc := ⟨.hbm, 165, rfl⟩
abbrev main_v114 : Ref sig .tc := ⟨.hbm, 166, rfl⟩
abbrev main_v115 : Ref sig .tc := ⟨.hbm, 167, rfl⟩
abbrev main_c_25 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_26 : Ref sig .tc := ⟨.hbm, 175, rfl⟩
abbrev main_call4_cst : Ref sig .tc := ⟨.hbm, 176, rfl⟩
abbrev main_call4_v0 : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_cst_27 : Ref sig .tc := ⟨.hbm, 190, rfl⟩
abbrev main_call5_v0 : Ref sig .tc := ⟨.hbm, 191, rfl⟩
abbrev main_call5_v1 : Ref sig .tc := ⟨.hbm, 192, rfl⟩
abbrev main_call5_v2 : Ref sig .tc := ⟨.hbm, 193, rfl⟩
abbrev main_call5_v3 : Ref sig .tc := ⟨.hbm, 194, rfl⟩
abbrev main_v130 : Ref sig .tc := ⟨.hbm, 195, rfl⟩
abbrev main_cst_28 : Ref sig .tc := ⟨.hbm, 196, rfl⟩
abbrev main_v131 : Ref sig .tc := ⟨.hbm, 197, rfl⟩
abbrev main_v132 : Ref sig .tc := ⟨.hbm, 198, rfl⟩
abbrev main_cst_29 : Ref sig .tc := ⟨.hbm, 199, rfl⟩
abbrev main_v133 : Ref sig .tc := ⟨.hbm, 200, rfl⟩
abbrev main_v134 : Ref sig .tc := ⟨.hbm, 201, rfl⟩
abbrev main_cst_30 : Ref sig .tc := ⟨.hbm, 202, rfl⟩
abbrev main_call6_v0 : Ref sig .tc := ⟨.hbm, 203, rfl⟩
abbrev main_call6_v1 : Ref sig .tc := ⟨.hbm, 204, rfl⟩
abbrev main_v135 : Ref sig .tc := ⟨.hbm, 205, rfl⟩
abbrev main_c_31 : Ref sig .tc := ⟨.hbm, 206, rfl⟩
abbrev main_v136 : Ref sig .tc := ⟨.hbm, 207, rfl⟩
abbrev main_v137 : Ref sig .tc := ⟨.hbm, 208, rfl⟩
abbrev main_c_32 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_cst_33 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_cst_34 : Ref sig .tc := ⟨.hbm, 221, rfl⟩
abbrev main_v148 : Ref sig .tc := ⟨.hbm, 222, rfl⟩
abbrev main_cst_35 : Ref sig .tc := ⟨.hbm, 223, rfl⟩
abbrev main_v149 : Ref sig .tc := ⟨.hbm, 224, rfl⟩
abbrev main_v150 : Ref sig .tc := ⟨.hbm, 225, rfl⟩
abbrev main_call7_cst : Ref sig .tc := ⟨.hbm, 226, rfl⟩
abbrev main_call7_v0 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_cst_36 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_c_37 : Ref sig .tc := ⟨.hbm, 237, rfl⟩
abbrev main_v159 : Ref sig .tc := ⟨.hbm, 238, rfl⟩
abbrev main_v160 : Ref sig .tc := ⟨.hbm, 239, rfl⟩
abbrev main_c_38 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_c_39 : Ref sig .tc := ⟨.hbm, 247, rfl⟩
abbrev main_v167 : Ref sig .tc := ⟨.hbm, 248, rfl⟩
abbrev main_v168 : Ref sig .tc := ⟨.hbm, 249, rfl⟩
abbrev main_c_40 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_cst_41 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩

abbrev nD : Nat := 1
abbrev τ : Topo := Topo.v7x

variable {F : FTy → Type} [FloatOps F]
-- ==== Proof.Frames.lean ====
/- The claims that hold of each program alone: it runs, it keeps its arguments, and every semaphore counter
   ends at zero. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel as printed runs and keeps its arguments. -/
theorem frame_kernel : Cert.quiescent_Kernel (hKernel := Cert.Kernel.Gen.facts) :=
  fun m g _ => Cert.Kernel.Gen.frame m g

/-- The kernel over the extended reals runs and keeps its arguments. -/
theorem frame_kernelIdeal : Cert.quiescent_KernelIdeal (hKernelIdeal := Cert.KernelIdeal.Gen.facts) :=
  fun m g _ => Cert.KernelIdeal.Gen.frame m g

/-- The reference over the extended reals runs and keeps its arguments; it has no semaphore at all. -/
theorem frame_referenceIdeal : Cert.quiescent_ReferenceIdeal (hReferenceIdeal := Cert.ReferenceIdeal.Gen.facts) :=
  fun m g _ => (θ_run _ _ _).mono
    (fun r h => ⟨fun c => (h c).2, sem_eq_zero_of_no_sems (by decide) r.2⟩)
    (Cert.ReferenceIdeal.Value.run m g)

end Cert.Proof

end
-- ==== Proof.KRun.lean ====
/- The kernel's run with its result named: the array the second region leaves. -/
module

public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs to its end from any memory; its result is what the second region's write-backs leave in the
    result array, and the arguments are as launched. -/
theorem run_result : θ_run defs (onTc (τ := τ) (main (F := F))) ⟨m, fun _ => 0, ρ⟩ (fun r => ∀ c : Dev nD,
      r.2.mem ((c.tc : Thread nD τ).loc main_v235) = (dat1 (V11 m ρ) c).arrAt 15 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => fun c =>
      ⟨(h c _ (mem_uc main_v235 (by decide))).trans (W12_arr m ρ c 15),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Gen

end
-- ==== Proof.Spec.lean ====
module

public import Idealize.ShloMosaic.PureOps.Ideal
public import Idealize.ShloMosaic.PureOps.Ideal.Laws
public import Idealize.ShloMosaic.Lib.WordCmp

@[expose] public section

/-! The layer over the extended reals: one relation's attention, with one shift of the exponent for
all nodes (the kernel's) and with one shift per node (the reference's), and that the two are equal. -/

noncomputable section

namespace Cert.Proof.Spec

open Idealize.ShloMosaic

/-! ## Words and rows -/

/-- The list's entry of edge `e`. -/
def edgeIx (e : Fin 256000) : Fin 306000 := ⟨e.val, by omega⟩
/-- The list's entry of node `k`'s self loop. -/
def loopIx (k : Fin 50000) : Fin 306000 := ⟨256000 + k.val, by omega⟩

/-- The node of row `j` of the block whose maximum row `r` of the 200 keeps. -/
def blockIx (r : Fin 200) (j : Fin 2000) : Fin 50000 := ⟨2000 * (r.val / 8) + j.val, by omega⟩

/-- A node's index word with a negative one wrapped, as an indexing reads it. -/
def wrap (w : BitVec 32) : BitVec 32 := Scalar.select (IntOp.cmpi .slt w 0#32) (w + 50000#32) w

/-- The row of a table of 50000 rows that the word `w` takes: wrapped, read signed, clamped. -/
def row (w : BitVec 32) : Fin 50000 := ⟨min (wrap w).toInt.toNat (50000 - 1), by omega⟩

/-- A word that is the number of a row takes that row. -/
theorem row_of_hit {w : BitVec 32} {n : Fin 50000} (h : w.toInt = (n.val : Int)) : row w = n := by
  have hn := n.isLt
  have hw : wrap w = w := by
    unfold wrap
    rw [WordCmp.cmpi_slt_zero, WordCmp.select_decide, if_neg]
    rw [BitVec.toInt_eq_toNat_cond] at h
    have := w.isLt
    split at h <;> omega
  refine Fin.ext ?_
  show min (wrap w).toInt.toNat (50000 - 1) = n.val
  rw [hw, h]
  omega

/-- The word of a node's number, read signed, is that number. -/
theorem toInt_ofNat (k : Fin 50000) : (BitVec.ofNat 32 k.val).toInt = (k.val : Int) := by
  have hk := k.isLt
  rw [BitVec.toInt_eq_toNat_cond, BitVec.toNat_ofNat]
  have : k.val % 2 ^ 32 = k.val := Nat.mod_eq_of_lt (by omega)
  rw [this, if_pos (by omega)]

/-! ## Literals -/

/-- The slope of the leaky branch, a float nearest 0.2. -/
def sl : ℝ := (Ideal.ofBits .f32 0x3E4CCCCD#32).toReal
/-- The guard of the quotient, a float nearest 1e-16. -/
def ep : ℝ := (Ideal.ofBits .f32 0x24E69595#32).toReal

/-- The value of the slope's word. -/
theorem sl_word :
    Ideal.ofBits .f32 0x3E4CCCCD#32 = ((1 * (2 ^ 23 + 5033165 : Nat) * (2 : ℝ) ^ ((124 : Int) - 127 - 23) : ℝ) : EReal) := by
  simp [Ideal.ofBits, Ideal.ieee]

/-- The slope's word is the slope. -/
theorem ofBits_sl : Ideal.ofBits .f32 0x3E4CCCCD#32 = (sl : EReal) := by
  unfold sl
  rw [sl_word, EReal.toReal_coe]

/-- The value of the guard's word. -/
theorem ep_word :
    Ideal.ofBits .f32 0x24E69595#32 = ((1 * (2 ^ 23 + 6722965 : Nat) * (2 : ℝ) ^ ((73 : Int) - 127 - 23) : ℝ) : EReal) := by
  simp [Ideal.ofBits, Ideal.ieee]

/-- The guard's word is the guard. -/
theorem ofBits_ep : Ideal.ofBits .f32 0x24E69595#32 = (ep : EReal) := by
  unfold ep
  rw [ep_word, EReal.toReal_coe]

/-- The guard is positive. -/
theorem ep_pos : 0 < ep := by
  unfold ep
  rw [ep_word, EReal.toReal_coe]
  positivity

/-- The word of minus infinity. -/
theorem ofBits_bot : Ideal.ofBits .f32 0xFF800000#32 = (⊥ : EReal) := by
  simp [Ideal.ofBits, Ideal.ieee]

/-- The word of plus infinity. -/
theorem ofBits_top : Ideal.ofBits .f32 0x7F800000#32 = (⊤ : EReal) := by
  simp [Ideal.ofBits, Ideal.ieee]

/-! ## The operations -/

/-- A sum of real numbers, taken over the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same with terms left out. -/
theorem coe_sum_if {ι : Type*} (s : Finset ι) (p : ι → Prop) [DecidablePred p] (f : ι → ℝ) :
    (∑ i ∈ s, if p i then ((f i : ℝ) : EReal) else 0) = ((∑ i ∈ s, if p i then f i else 0 : ℝ) : EReal) := by
  rw [← coe_sum]
  refine Finset.sum_congr rfl fun i _ => ?_
  split <;> simp

/-- A sum times a real number that is not negative is the sum of the products, infinite terms included. -/
theorem sum_mul_coe {ι : Type*} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top _), ih]

/-- A term added where its word is `n`, at equal words and, there, equal terms. -/
theorem if_hit {w w' : BitVec 32} {n : Int} {p p' : EReal} (hw : w = w') (h : w'.toInt = n → p = p') :
    (if w.toInt = n then p else 0) = if w'.toInt = n then p' else 0 := by
  subst hw
  by_cases q : w.toInt = n
  · rw [if_pos q, if_pos q, h q]
  · rw [if_neg q, if_neg q]

/-- The exponential of a real number. -/
theorem exp_coe (r : ℝ) : Ideal.exp (r : EReal) = ((Real.exp r : ℝ) : EReal) := rfl

/-- The host's exponential of a difference. -/
theorem hostExp_sub {p q : Ideal .f32} {r s : EReal} (hp : @Eq EReal p r) (hq : @Eq EReal q s) :
    @Eq EReal (FloatOps.hostUnary (F := Ideal) (φ := .f32) .exp (FloatOps.subf (F := Ideal) (φ := .f32) p q)) (Ideal.exp (r - s)) := by
  subst hp hq
  rfl

/-- The leaky branch. -/
def leak (z : EReal) : EReal := if 0 < z then z else (sl : EReal) * z

/-- The leaky branch chosen by a strict comparison. -/
theorem leak_gt (z : EReal) : Scalar.select (Ideal.cmp .ogt z 0) z ((sl : EReal) * z) = leak z := by
  unfold Ideal.cmp leak
  rw [WordCmp.select_decide]

/-- The leaky branch chosen by a comparison that is not strict: the two agree at zero. -/
theorem leak_ge (z : EReal) : Scalar.select (Ideal.cmp .oge z 0) z ((sl : EReal) * z) = leak z := by
  unfold Ideal.cmp leak
  rw [WordCmp.select_decide]
  by_cases h : 0 < z
  · rw [if_pos h.le, if_pos h]
  · rw [if_neg h]
    by_cases h' : 0 ≤ z
    · rw [if_pos h', le_antisymm (not_lt.1 h) h', mul_zero]
    · rw [if_neg h']

/-- The slope is not negative. -/
theorem sl_nonneg : 0 ≤ sl := by
  unfold sl
  rw [sl_word, EReal.toReal_coe]
  positivity

/-- The leaky branch of what is not plus infinity is not plus infinity. -/
theorem leak_ne_top {z : EReal} (h : z ≠ ⊤) : leak z ≠ ⊤ := by
  unfold leak
  split
  · exact h
  · next h0 =>
    refine ne_of_lt (lt_of_le_of_lt ?_ EReal.zero_lt_top)
    have h1 : z ≤ 0 := not_lt.1 h0
    calc (sl : EReal) * z ≤ (sl : EReal) * 0 := mul_le_mul_of_nonneg_left h1 (by exact_mod_cast sl_nonneg)
      _ = 0 := mul_zero _

/-! ## Maxima -/

/-- The fold of `max` from minus infinity is the supremum. -/
theorem fold_max_bot {ι : Type*} (s : Finset ι) (f : ι → EReal) : s.fold max ⊥ f = s.sup f := rfl

/-- The largest value over all nodes. -/
def top (f : Fin 50000 → EReal) : EReal := Finset.univ.sup f

/-- The supremum over the nodes in 25 blocks of 2000 rows, each block's repeated on eight rows. -/
theorem sup_blocks (f : Fin 50000 → EReal) :
    (Finset.univ.sup fun r : Fin 200 => Finset.univ.sup fun j : Fin 2000 => f (blockIx r j))
      = Finset.univ.sup f := by
  refine le_antisymm (Finset.sup_le fun r _ => Finset.sup_le fun j _ => Finset.le_sup (Finset.mem_univ _)) ?_
  refine Finset.sup_le fun n _ => ?_
  have hn := n.isLt
  refine le_trans ?_ (Finset.le_sup (f := fun r : Fin 200 => Finset.univ.sup fun j : Fin 2000 =>
    f (blockIx r j)) (Finset.mem_univ ⟨8 * (n.val / 2000), by omega⟩))
  refine le_trans (le_of_eq ?_) (Finset.le_sup (f := fun j : Fin 2000 =>
    f (blockIx ⟨8 * (n.val / 2000), by omega⟩ j)) (Finset.mem_univ ⟨n.val % 2000, by omega⟩))
  congr 1
  refine Fin.ext ?_
  show n.val = 2000 * (8 * (n.val / 2000) / 8) + n.val % 2000
  omega

/-- The bound both programs scale by: the largest possible logit, or 0 when that is negative. -/
def bound (as ad : Fin 50000 → EReal) : EReal := max (top as + top ad) 0

/-! ## One relation -/

section Relation

variable (src dst : Fin 256000 → BitVec 32) (as ad xl : Fin 50000 → EReal) (K : EReal)

/-- The kernel's weight of edge `e`: the exponential of its logit less the bound. -/
def ew (e : Fin 256000) : EReal := Ideal.exp (leak (as (row (src e)) + ad (row (dst e))) - K)

/-- The kernel's weight of node `n`'s self loop. -/
def sw (n : Fin 50000) : EReal := Ideal.exp (leak (as n + ad n) - K)

/-- The sum of the weights of the edges into `n`. -/
def den (n : Fin 50000) : EReal := ∑ e : Fin 256000, if (dst e).toInt = (n.val : Int) then ew src dst as ad K e else 0

/-- The weighted sum over the edges into `n` of the feature at their source. -/
def num (n : Fin 50000) : EReal :=
  ∑ e : Fin 256000, if (dst e).toInt = (n.val : Int) then ew src dst as ad K e * xl (row (src e)) else 0

/-- One relation's attention at node `n`: the weighted mean over the edges into `n` and its self loop. -/
def agg (n : Fin 50000) : EReal :=
  Ideal.div (num src dst as ad xl K n + sw as ad K n * xl n) (den src dst as ad K n + sw as ad K n + (ep : EReal))

/-! The reference's form: the edges and the self loops in one list, and a shift `A n` at each node. -/

variable (src' dst' : Fin 306000 → BitVec 32) (A : Fin 50000 → ℝ)

/-- The reference's weight of entry `e` of the list. -/
def pw (e : Fin 306000) : EReal :=
  Ideal.exp (leak (as (row (src' e)) + ad (row (dst' e))) - (A (row (dst' e)) : EReal))

/-- The reference's denominator at node `n`, its guard scaled to the node's shift. -/
def pden (n : Fin 50000) : EReal :=
  (∑ e : Fin 306000, if (dst' e).toInt = (n.val : Int) then pw as ad src' dst' A e else 0) + (ep : EReal) * Ideal.exp (K - (A n : EReal))

/-- The reference's attention at node `n`. -/
def pagg (n : Fin 50000) : EReal :=
  ∑ e : Fin 306000, if (dst' e).toInt = (n.val : Int) then
    xl (row (src' e)) * Ideal.div (pw as ad src' dst' A e) (pden as ad K src' dst' A (row (dst' e))) else 0

/-- An exponential is not negative. -/
theorem exp_nonneg (z : EReal) : 0 ≤ Ideal.exp z := by
  induction z using EReal.rec with
  | bot => exact le_refl _
  | top => exact le_top
  | coe r => rw [exp_coe]; exact_mod_cast (Real.exp_pos r).le

/-! An infinite bound: both forms are 0. -/

/-- Every exponential of a difference from plus infinity is zero. -/
theorem exp_sub_top (z : EReal) : Ideal.exp (z - ⊤) = 0 := by
  rw [sub_eq_add_neg, EReal.neg_top, EReal.add_bot]
  rfl

/-- The kernel's form at an infinite bound is zero. -/
theorem agg_top (n : Fin 50000) : agg src dst as ad xl ⊤ n = 0 := by
  have hd : den src dst as ad ⊤ n = 0 := by
    unfold den ew
    exact Finset.sum_eq_zero fun e _ => by rw [exp_sub_top]; split <;> rfl
  have hn : num src dst as ad xl ⊤ n = 0 := by
    unfold num ew
    exact Finset.sum_eq_zero fun e _ => by rw [exp_sub_top, zero_mul]; split <;> rfl
  have hs : sw as ad ⊤ n = 0 := exp_sub_top _
  unfold agg
  rw [hd, hn, hs, zero_mul, add_zero, zero_add, Ideal.div_coe ep_pos.ne', zero_mul]

/-- The reference's denominator at an infinite bound is infinite. -/
theorem pden_top (n : Fin 50000) : pden as ad ⊤ src' dst' A n = ⊤ := by
  unfold pden
  have h1 : Ideal.exp (⊤ - (A n : EReal)) = ⊤ := by rw [EReal.top_sub_coe]; rfl
  rw [h1, EReal.coe_mul_top_of_pos ep_pos]
  refine EReal.add_top_of_ne_bot (ne_of_gt (lt_of_lt_of_le EReal.bot_lt_zero (Finset.sum_nonneg fun e _ => ?_)))
  split
  · exact exp_nonneg _
  · exact le_refl _

/-- The reference's form at an infinite bound is zero. -/
theorem pagg_top (n : Fin 50000) : pagg as ad xl ⊤ src' dst' A n = 0 := by
  unfold pagg
  refine Finset.sum_eq_zero fun e _ => ?_
  rw [pden_top]
  have h : ∀ z, Ideal.div z ⊤ = 0 := fun z => by
    unfold Ideal.div
    rw [if_neg EReal.top_ne_zero, EReal.inv_top, mul_zero]
  rw [h, mul_zero]
  split <;> rfl

variable (hs : ∀ e : Fin 256000, src' (edgeIx e) = src e) (hd : ∀ e : Fin 256000, dst' (edgeIx e) = dst e)
  (hs' : ∀ k : Fin 50000, src' (loopIx k) = BitVec.ofNat 32 k.val)
  (hd' : ∀ k : Fin 50000, dst' (loopIx k) = BitVec.ofNat 32 k.val)

/-- A sum over the list is the sum over the edges plus the sum over the self loops. -/
theorem sum_list (g : Fin 306000 → EReal) :
    ∑ e, g e = (∑ e : Fin 256000, g (edgeIx e)) + ∑ k : Fin 50000, g (loopIx k) := by
  exact Fin.sum_univ_add (a := 256000) (b := 50000) (fun e : Fin (256000 + 50000) => g e)

include hs hd hs' hd' in
/-- The sum over the list's entries into `n` of what depends on the entry's source and logit: the sum
    over the edges into `n` plus the self loop's term. -/
theorem sum_into (n : Fin 50000) (G : Fin 50000 → EReal) :
    (∑ e : Fin 306000, if (dst' e).toInt = (n.val : Int) then G (row (src' e)) else 0)
      = (∑ e : Fin 256000, if (dst e).toInt = (n.val : Int) then G (row (src e)) else 0) + G n := by
  refine (sum_list _).trans ?_
  refine congrArg₂ (· + ·) ?_ ?_
  · exact Finset.sum_congr rfl fun e _ => by rw [hd, hs]
  · rw [Finset.sum_eq_single n]
    · rw [hd', hs', if_pos (toInt_ofNat n), row_of_hit (toInt_ofNat n)]
    · intro k _ hk
      rw [hd', if_neg]
      rw [toInt_ofNat]
      intro q
      exact hk (Fin.ext (by exact_mod_cast q))
    · intro h; exact absurd (Finset.mem_univ n) h

/-! A bound that is a real number `k`: the weights are real numbers, and the features may be infinite. -/

variable (k : ℝ) (hk : ∀ m n, as m + ad n ≠ ⊤)

/-- The weight of an edge from `m` to `n`, as a real number. -/
def wt (m n : Fin 50000) : ℝ := EReal.toReal (Ideal.exp (leak (as m + ad n) - (k : EReal)))

/-- What is not plus infinity, less a real number: the exponential is a real number, and another shift scales it. -/
theorem exp_real {z : EReal} (hz : z ≠ ⊤) (r : ℝ) :
    Ideal.exp (z - (r : EReal)) = ((EReal.toReal (Ideal.exp (z - (r : EReal))) : ℝ) : EReal)
    ∧ 0 ≤ EReal.toReal (Ideal.exp (z - (r : EReal)))
    ∧ ∀ a : ℝ, Ideal.exp (z - (a : EReal)) = ((EReal.toReal (Ideal.exp (z - (r : EReal))) * Real.exp (r - a) : ℝ) : EReal) := by
  induction z using EReal.rec with
  | bot =>
    have h : ∀ a : ℝ, Ideal.exp (⊥ - (a : EReal)) = 0 := fun a => by rw [EReal.bot_sub]; rfl
    rw [h, EReal.toReal_zero]
    exact ⟨rfl, le_refl _, fun a => by rw [h, zero_mul]; rfl⟩
  | top => exact absurd rfl hz
  | coe x =>
    rw [← EReal.coe_sub, exp_coe, EReal.toReal_coe]
    refine ⟨rfl, (Real.exp_pos _).le, fun a => ?_⟩
    rw [← EReal.coe_sub, exp_coe, ← Real.exp_add]
    exact congrArg (fun t : ℝ => ((Real.exp t : ℝ) : EReal)) (by ring)

include hk in
/-- The weight is that real number. -/
theorem wt_eq (m n : Fin 50000) : Ideal.exp (leak (as m + ad n) - (k : EReal)) = (wt as ad k m n : EReal) :=
  (exp_real (leak_ne_top (hk m n)) k).1

include hk in
/-- The weight is not negative. -/
theorem wt_nonneg (m n : Fin 50000) : 0 ≤ wt as ad k m n := (exp_real (leak_ne_top (hk m n)) k).2.1

include hk in
/-- The weight at another shift is a multiple of it. -/
theorem wt_shift (m n : Fin 50000) (a : ℝ) :
    Ideal.exp (leak (as m + ad n) - (a : EReal)) = ((wt as ad k m n * Real.exp (k - a) : ℝ) : EReal) :=
  (exp_real (leak_ne_top (hk m n)) k).2.2 a

/-- The denominator as a real number. -/
def rden (n : Fin 50000) : ℝ :=
  (∑ e : Fin 256000, if (dst e).toInt = (n.val : Int) then wt as ad k (row (src e)) n else 0) + wt as ad k n n + ep

include hk in
/-- The denominator is positive. -/
theorem rden_pos (n : Fin 50000) : 0 < rden src dst as ad k n := by
  have h1 : 0 ≤ ∑ e : Fin 256000, if (dst e).toInt = (n.val : Int) then wt as ad k (row (src e)) n else 0 := by
    refine Finset.sum_nonneg fun e _ => ?_
    split
    · exact wt_nonneg as ad k hk _ _
    · exact le_refl _
  have h2 := wt_nonneg as ad k hk n n
  have h3 := ep_pos
  unfold rden
  linarith

include hk in
/-- The weight of an edge into `n`. -/
theorem ew_hit (n : Fin 50000) (e : Fin 256000) (h : (dst e).toInt = (n.val : Int)) :
    ew src dst as ad (k : EReal) e = (wt as ad k (row (src e)) n : EReal) := by
  unfold ew
  rw [row_of_hit h]
  exact wt_eq as ad k hk _ _

include hk in
/-- The kernel's denominator is that real number. -/
theorem den_eq (n : Fin 50000) : den src dst as ad (k : EReal) n + sw as ad (k : EReal) n + (ep : EReal) = (rden src dst as ad k n : EReal) := by
  unfold rden
  rw [EReal.coe_add, EReal.coe_add, ← coe_sum_if]
  refine congrArg₂ (· + ·) (congrArg₂ (· + ·) ?_ (wt_eq as ad k hk n n)) rfl
  exact Finset.sum_congr rfl fun e _ => if_hit rfl fun h => ew_hit src dst as ad k hk n e h

include hs hd hs' hd' hk in
/-- The reference's denominator is the kernel's, scaled. -/
theorem pden_eq (n : Fin 50000) :
    pden as ad (k : EReal) src' dst' A n = ((rden src dst as ad k n * Real.exp (k - A n) : ℝ) : EReal) := by
  have h1 : (∑ e : Fin 306000, if (dst' e).toInt = (n.val : Int) then pw as ad src' dst' A e else 0)
      = ∑ e : Fin 306000, if (dst' e).toInt = (n.val : Int) then
          (fun m => ((wt as ad k m n * Real.exp (k - A n) : ℝ) : EReal)) (row (src' e)) else 0 := by
    refine Finset.sum_congr rfl fun e _ => if_hit rfl fun h => ?_
    unfold pw
    rw [row_of_hit h]
    exact wt_shift as ad k hk _ _ _
  unfold pden rden
  rw [h1, sum_into src dst src' dst' hs hd hs' hd' n (fun m => ((wt as ad k m n * Real.exp (k - A n) : ℝ) : EReal)), add_mul, add_mul,
    EReal.coe_add, EReal.coe_add]
  refine congrArg₂ (· + ·) (congrArg₂ (· + ·) ?_ rfl) ?_
  · rw [Finset.sum_mul, ← coe_sum]
    refine Finset.sum_congr rfl fun e _ => ?_
    split
    · rfl
    · rw [zero_mul]; rfl
  · rw [← EReal.coe_sub, exp_coe, EReal.coe_mul]

include hs hd hs' hd' hk in
/-- The two forms are equal at a bound that is a real number. -/
theorem pagg_coe (n : Fin 50000) : pagg as ad xl (k : EReal) src' dst' A n = agg src dst as ad xl (k : EReal) n := by
  have hp := rden_pos src dst as ad k hk n
  have hp' : 0 ≤ 1 / rden src dst as ad k n := (div_pos one_pos hp).le
  have h1 : pagg as ad xl (k : EReal) src' dst' A n = ∑ e : Fin 306000, if (dst' e).toInt = (n.val : Int) then
          (fun m => (wt as ad k m n : EReal) * xl m * ((1 / rden src dst as ad k n : ℝ) : EReal)) (row (src' e)) else 0 := by
    unfold pagg
    refine Finset.sum_congr rfl fun e _ => if_hit rfl fun h => ?_
    have hr : rden src dst as ad k n * Real.exp (k - A n) ≠ 0 := mul_ne_zero hp.ne' (Real.exp_pos _).ne'
    rw [row_of_hit h, pden_eq src dst as ad src' dst' A hs hd hs' hd' k hk n]
    unfold pw
    rw [row_of_hit h, wt_shift as ad k hk, Ideal.div_coe hr, ← EReal.coe_mul]
    have hq : wt as ad k (row (src' e)) n * Real.exp (k - A n) * (1 / (rden src dst as ad k n * Real.exp (k - A n)))
        = wt as ad k (row (src' e)) n * (1 / rden src dst as ad k n) := by
      have := (Real.exp_pos (k - A n)).ne'
      field_simp
    rw [hq, EReal.coe_mul]
    show xl (row (src' e)) * ((wt as ad k (row (src' e)) n : EReal) * _) = (wt as ad k (row (src' e)) n : EReal) * xl (row (src' e)) * _
    rw [mul_comm (wt as ad k (row (src' e)) n : EReal) (xl (row (src' e))), mul_assoc]
  rw [h1, sum_into src dst src' dst' hs hd hs' hd' n
    (fun m => (wt as ad k m n : EReal) * xl m * ((1 / rden src dst as ad k n : ℝ) : EReal))]
  unfold agg
  rw [den_eq src dst as ad k hk n, Ideal.div_coe hp.ne',
    EReal.right_distrib_of_nonneg_of_ne_top (by exact_mod_cast hp') (EReal.coe_ne_top _)]
  refine congrArg₂ (· + ·) ?_ ?_
  · unfold num
    rw [sum_mul_coe _ _ hp']
    refine Finset.sum_congr rfl fun e _ => ?_
    by_cases h : (dst e).toInt = (n.val : Int)
    · rw [if_pos h, if_pos h, ew_hit src dst as ad k hk n e h]
    · rw [if_neg h, if_neg h, zero_mul]
  · unfold sw
    rw [wt_eq as ad k hk n n]

include hs hd hs' hd' in
/-- The two forms of one relation's attention are equal, with the bound as the kernel takes it. -/
theorem pagg_eq (n : Fin 50000) :
    pagg as ad xl (bound as ad) src' dst' A n = agg src dst as ad xl (bound as ad) n := by
  have h0 : (0 : EReal) ≤ bound as ad := le_max_right _ _
  rcases eq_or_ne (bound as ad) ⊤ with ht | ht
  · rw [ht, pagg_top, agg_top]
  · have hb : bound as ad ≠ ⊥ := ne_of_gt (lt_of_lt_of_le EReal.bot_lt_zero h0)
    have hk : ∀ m n, as m + ad n ≠ ⊤ := fun m n => by
      refine ne_of_lt (lt_of_le_of_lt ?_ (lt_top_iff_ne_top.2 ht))
      refine le_trans (add_le_add ?_ ?_) (le_max_left _ _)
      · exact Finset.le_sup (f := as) (Finset.mem_univ m)
      · exact Finset.le_sup (f := ad) (Finset.mem_univ n)
    rw [← EReal.coe_toReal ht hb]
    exact pagg_coe src dst as ad xl src' dst' A hs hd hs' hd' _ hk n

end Relation

/-! ## The features and the logits' halves -/

/-- A node's projected features. -/
def feat (X : Fin 50000 → Fin 128 → EReal) (W : Fin 128 → Fin 128 → EReal) (n : Fin 50000) (j : Fin 128) : EReal := ∑ k : Fin 128, X n k * W k j

/-- The column of head `h`, channel `c`. -/
def col (h : Fin 4) (c : Fin 32) : Fin 128 := ⟨32 * h.val + c.val, by omega⟩

/-- A node's half of a logit at head `h`: its features against the head's attention weights. -/
def half (X : Fin 50000 → Fin 128 → EReal) (W : Fin 128 → Fin 128 → EReal) (a : Fin 4 → Fin 32 → EReal) (h : Fin 4) (n : Fin 50000) : EReal :=
  ∑ c : Fin 32, feat X W n (col h c) * a h c

/-- One relation's output at node `n`, head `h`, channel `c`, before the bias. -/
def out (src dst : Fin 256000 → BitVec 32) (X : Fin 50000 → Fin 128 → EReal) (W : Fin 128 → Fin 128 → EReal) (a b : Fin 4 → Fin 32 → EReal)
    (n : Fin 50000) (h : Fin 4) (c : Fin 32) : EReal :=
  agg src dst (half X W a h) (half X W b h) (fun m => feat X W m (col h c)) (bound (half X W a h) (half X W b h)) n

end Cert.Proof.Spec
-- ==== Proof.Rows.lean ====
module

public import Idealize.ShloMosaic.PureOps.Ideal
public import Idealize.ShloMosaic.PureOps.Ideal.Laws
public import Idealize.ShloMosaic.Lib.ValueIdxCore
public import Idealize.ShloMosaic.Lib.ValueIdx
public import Idealize.ShloMosaic.Lib.Routing.OpsPair
public import Idealize.ShloMosaic.Lib.KernelVsHost

@[expose] public section

/-! Rows of a table, taken and added to by a column of index words: `x[idx]` and
`zeros.at[idx].add(u)` of a table `[N, C]` or `[N, H, C]`, read at an element, at any extents. -/

namespace Cert.Proof.Rows

open Idealize.ShloMosaic Idealize.ShloMosaic.ValueIdx

/-- The dimension numbers of `x[idx]`, the rows of `x : [N, C]` at the words of `idx : [M, 1]`. -/
abbrev g2 (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Row `e` of the taken rows is the row of `x` at the word `idx[e, 0]`, read signed and clamped. -/
theorem gather2 {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (g2 N C M wf) x idx (ix2 e c)
      = x (ix2 ⟨min (idx (ix2 e 0)).toInt.toNat (N - 1), by omega⟩ c) := by
  unfold Host.gather
  congr 1
  funext a
  refine Fin.ext ?_
  show (g2 N C M wf).start (ix2 e c) idx a + (g2 N C M wf).batchCoord (ix2 e c) a
      + (g2 N C M wf).offCoord (ix2 e c) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (g2 N C M wf).startIndexMap from List.mem_singleton.mpr rfl)]
    have hsi : (g2 N C M wf).siIdx (ix2 e c) ⟨List.idxOf (0 : Fin 2) (g2 N C M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (by simp)]
    simp only [Nat.zero_add, Nat.add_zero]
    unfold GatherDims.offCoord
    exact dif_pos (show (1 : Fin 2) ∈ ([1] : List (Fin 2)) from by decide)

/-- The dimension numbers of `x[idx]`, the slabs of `x : [N, H, C]` at the words of `idx : [M, 1]`. -/
abbrev g3 (N H C M : Nat)
    (wf : GatherDims.WF ⟨3, ![N, H, C]⟩ ⟨2, ![M, 1]⟩ ⟨3, ![M, H, C]⟩ [1, 2] [0] [] [0] [] 1 ![1, H, C]) :
    GatherDims ⟨3, ![N, H, C]⟩ ⟨2, ![M, 1]⟩ ⟨3, ![M, H, C]⟩ where
  offsetDims := [1, 2]
  collapsedSliceDims := [0]
  operandBatchingDims := []
  startIndicesBatchingDims := []
  startIndexMap := [0]
  indexVectorDim := 1
  sliceSizes := ![1, H, C]
  wf := wf

/-- Slab `e` of the taken slabs is the slab of `x` at the word `idx[e, 0]`, read signed and clamped. -/
theorem gather3 {α : Type} {N H C M w : Nat} (hN : 0 < N)
    (wf : GatherDims.WF ⟨3, ![N, H, C]⟩ ⟨2, ![M, 1]⟩ ⟨3, ![M, H, C]⟩ [1, 2] [0] [] [0] [] 1 ![1, H, C])
    (x : (⟨3, ![N, H, C]⟩ : Shape).Idx → α) (idx : IVec ⟨2, ![M, 1]⟩ w) (e : Fin M) (h : Fin H) (c : Fin C) :
    Host.gather (g3 N H C M wf) x idx (ix3 e h c)
      = x (ix3 ⟨min (idx (ix2 e 0)).toInt.toNat (N - 1), by omega⟩ h c) := by
  unfold Host.gather
  congr 1
  funext a
  refine Fin.ext ?_
  show (g3 N H C M wf).start (ix3 e h c) idx a + (g3 N H C M wf).batchCoord (ix3 e h c) a
      + (g3 N H C M wf).offCoord (ix3 e h c) a = _
  rw [GatherDims.batchCoord_eq_zero _ _ _ List.not_mem_nil]
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (g3 N H C M wf).startIndexMap from List.mem_singleton.mpr rfl)]
    have hsi : (g3 N H C M wf).siIdx (ix3 e h c) ⟨List.idxOf (0 : Fin 3) (g3 N H C M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (by simp)]
    simp only [Nat.zero_add, Nat.add_zero]
    unfold GatherDims.offCoord
    exact dif_pos (show (1 : Fin 3) ∈ ([1, 2] : List (Fin 3)) from by decide)
  · unfold GatherDims.start
    rw [dif_neg (by simp)]
    simp only [Nat.zero_add, Nat.add_zero]
    unfold GatherDims.offCoord
    exact dif_pos (show (2 : Fin 3) ∈ ([1, 2] : List (Fin 3)) from by decide)

/-- The dimension numbers of `x.at[idx].add(u)` with rows `u : [M, C]`. -/
abbrev s2 (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update `(e, c)` lands at `(n, k)` exactly when its word, read signed, is `n` and `c = k`. -/
theorem lands2 {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (s2 N C M wf).resultIdx? (ix2 e c) idx = some (ix2 n k) ↔ (idx (ix2 e 0)).toInt = (n.val : Int) ∧ c = k := by
  rw [Routing.resultIdx?_eq_some]
  have hs0 : (s2 N C M wf).start (ix2 e c) idx 0 = (idx (ix2 e 0)).toInt := by
    unfold ScatterDims.start
    rw [dif_pos (show (0 : Fin 2) ∈ (s2 N C M wf).scatterDimsToOperandDims from List.mem_singleton.mpr rfl)]
    congr 2
    funext b; refine Fin.ext ?_
    match b with
    | ⟨0, _⟩ => rfl
    | ⟨1, _⟩ => rfl
  have hs1 : (s2 N C M wf).start (ix2 e c) idx 1 = 0 := by
    unfold ScatterDims.start
    rw [dif_neg (by simp)]
  have hw0 : (s2 N C M wf).window (ix2 e c) 0 = 0 := by
    unfold ScatterDims.window
    exact dif_neg (show (0 : Fin 2) ∉ ([1] : List (Fin 2)) from by decide)
  have hw1 : (s2 N C M wf).window (ix2 e c) 1 = c.val := by
    unfold ScatterDims.window
    exact dif_pos (show (1 : Fin 2) ∈ ([1] : List (Fin 2)) from by decide)
  constructor
  · intro h
    have h0 := h 0
    have h1 := h 1
    rw [hs0, hw0] at h0
    change _ + ((0 : ℕ) : ℤ) = ((n.val : ℕ) : ℤ) at h0
    rw [hs1, hw1] at h1
    change (0 : ℤ) + ((c.val : ℕ) : ℤ) = ((k.val : ℕ) : ℤ) at h1
    refine ⟨by omega, Fin.ext ?_⟩
    omega
  · rintro ⟨h, rfl⟩ a
    match a with
    | ⟨0, _⟩ => show (s2 N C M wf).start (ix2 e c) idx 0 + ((s2 N C M wf).window (ix2 e c) 0 : Int) = n.val
                rw [hs0, hw0, h]; simp
    | ⟨1, _⟩ => show (s2 N C M wf).start (ix2 e c) idx 1 + ((s2 N C M wf).window (ix2 e c) 1 : Int) = c.val
                rw [hs1, hw1]; simp

/-- The rows added, at `(n, k)`: the table's element plus the updates' elements whose word is `n`. -/
theorem scatter2 {φ : FTy} {N C M w : Nat} (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (u : FVec Ideal ⟨2, ![M, C]⟩ φ) (n : Fin N) (k : Fin C) :
    (Host.scatterAdd (F := Ideal) (s2 N C M wf) x idx u : _) (ix2 n k)
      = x (ix2 n k) + ∑ e : Fin M, if (idx (ix2 e 0)).toInt = (n.val : Int) then u (ix2 e k) else 0 := by
  show x (ix2 n k) + ∑ j ∈ Finset.univ.filter (fun j => (s2 N C M wf).resultIdx? j idx = some (ix2 n k)), u j = _
  congr 1
  rw [Finset.sum_filter, sum_idx2]
  refine Finset.sum_congr rfl fun e _ => ?_
  rw [Finset.sum_eq_single k]
  · simp only [lands2, and_true]
  · intro c _ hc
    rw [if_neg]
    rw [lands2]
    exact fun h => hc h.2
  · intro h; exact absurd (Finset.mem_univ k) h

/-- The dimension numbers of `x.at[idx].add(u)` with slabs `u : [M, H, C]`. -/
abbrev s3 (N H C M : Nat) (wf : ScatterDims.WF ⟨3, ![N, H, C]⟩ ⟨2, ![M, 1]⟩ ⟨3, ![M, H, C]⟩ [1, 2] [0] [0] 1) :
    ScatterDims ⟨3, ![N, H, C]⟩ ⟨2, ![M, 1]⟩ ⟨3, ![M, H, C]⟩ where
  updateWindowDims := [1, 2]
  insertedWindowDims := [0]
  scatterDimsToOperandDims := [0]
  indexVectorDim := 1
  wf := wf

/-- Update `(e, g, c)` lands at `(n, h, k)` exactly when its word, read signed, is `n`, `g = h` and `c = k`. -/
theorem lands3 {N H C M w : Nat} (wf : ScatterDims.WF ⟨3, ![N, H, C]⟩ ⟨2, ![M, 1]⟩ ⟨3, ![M, H, C]⟩ [1, 2] [0] [0] 1)
    (idx : IVec ⟨2, ![M, 1]⟩ w) (e : Fin M) (g : Fin H) (c : Fin C) (n : Fin N) (h : Fin H) (k : Fin C) :
    (s3 N H C M wf).resultIdx? (ix3 e g c) idx = some (ix3 n h k)
      ↔ (idx (ix2 e 0)).toInt = (n.val : Int) ∧ g = h ∧ c = k := by
  rw [Routing.resultIdx?_eq_some]
  have hs0 : (s3 N H C M wf).start (ix3 e g c) idx 0 = (idx (ix2 e 0)).toInt := by
    unfold ScatterDims.start
    rw [dif_pos (show (0 : Fin 3) ∈ (s3 N H C M wf).scatterDimsToOperandDims from List.mem_singleton.mpr rfl)]
    congr 2
    funext b; refine Fin.ext ?_
    match b with
    | ⟨0, _⟩ => rfl
    | ⟨1, _⟩ => rfl
  have hs1 : (s3 N H C M wf).start (ix3 e g c) idx 1 = 0 := by
    unfold ScatterDims.start
    rw [dif_neg (by simp)]
  have hs2 : (s3 N H C M wf).start (ix3 e g c) idx 2 = 0 := by
    unfold ScatterDims.start
    rw [dif_neg (by simp)]
  have hw0 : (s3 N H C M wf).window (ix3 e g c) 0 = 0 := by
    unfold ScatterDims.window
    exact dif_neg (show (0 : Fin 3) ∉ ([1, 2] : List (Fin 3)) from by decide)
  have hw1 : (s3 N H C M wf).window (ix3 e g c) 1 = g.val := by
    unfold ScatterDims.window
    exact dif_pos (show (1 : Fin 3) ∈ ([1, 2] : List (Fin 3)) from by decide)
  have hw2 : (s3 N H C M wf).window (ix3 e g c) 2 = c.val := by
    unfold ScatterDims.window
    exact dif_pos (show (2 : Fin 3) ∈ ([1, 2] : List (Fin 3)) from by decide)
  constructor
  · intro q
    have h0 := q 0
    have h1 := q 1
    have h2 := q 2
    rw [hs0, hw0] at h0
    change _ + ((0 : ℕ) : ℤ) = ((n.val : ℕ) : ℤ) at h0
    rw [hs1, hw1] at h1
    change (0 : ℤ) + ((g.val : ℕ) : ℤ) = ((h.val : ℕ) : ℤ) at h1
    rw [hs2, hw2] at h2
    change (0 : ℤ) + ((c.val : ℕ) : ℤ) = ((k.val : ℕ) : ℤ) at h2
    refine ⟨by omega, Fin.ext ?_, Fin.ext ?_⟩
    · omega
    · omega
  · rintro ⟨q, rfl, rfl⟩ a
    match a with
    | ⟨0, _⟩ => show (s3 N H C M wf).start (ix3 e g c) idx 0 + ((s3 N H C M wf).window (ix3 e g c) 0 : Int) = n.val
                rw [hs0, hw0, q]; simp
    | ⟨1, _⟩ => show (s3 N H C M wf).start (ix3 e g c) idx 1 + ((s3 N H C M wf).window (ix3 e g c) 1 : Int) = g.val
                rw [hs1, hw1]; simp
    | ⟨2, _⟩ => show (s3 N H C M wf).start (ix3 e g c) idx 2 + ((s3 N H C M wf).window (ix3 e g c) 2 : Int) = c.val
                rw [hs2, hw2]; simp

/-- The indices of a rank-3 shape are the triples of coordinates. -/
def idxEquiv3 {a b c : Nat} : (⟨3, ![a, b, c]⟩ : Shape).Idx ≃ Fin a × Fin b × Fin c where
  toFun j := (j 0, j 1, j 2)
  invFun p := ix3 p.1 p.2.1 p.2.2
  left_inv j := (eq_ix3 j).symm
  right_inv _ := rfl

/-- The slabs added, at `(n, h, k)`: the table's element plus the updates' elements whose word is `n`. -/
theorem scatter3 {φ : FTy} {N H C M w : Nat}
    (wf : ScatterDims.WF ⟨3, ![N, H, C]⟩ ⟨2, ![M, 1]⟩ ⟨3, ![M, H, C]⟩ [1, 2] [0] [0] 1)
    (x : FVec Ideal ⟨3, ![N, H, C]⟩ φ) (idx : IVec ⟨2, ![M, 1]⟩ w) (u : FVec Ideal ⟨3, ![M, H, C]⟩ φ)
    (n : Fin N) (h : Fin H) (k : Fin C) :
    (Host.scatterAdd (F := Ideal) (s3 N H C M wf) x idx u : _) (ix3 n h k)
      = x (ix3 n h k) + ∑ e : Fin M, if (idx (ix2 e 0)).toInt = (n.val : Int) then u (ix3 e h k) else 0 := by
  show x (ix3 n h k) + ∑ j ∈ Finset.univ.filter (fun j => (s3 N H C M wf).resultIdx? j idx = some (ix3 n h k)), u j = _
  congr 1
  rw [Finset.sum_filter, ← Equiv.sum_comp idxEquiv3.symm, Fintype.sum_prod_type]
  refine Finset.sum_congr rfl fun e _ => ?_
  rw [Finset.sum_eq_single (h, k)]
  · show (if (s3 N H C M wf).resultIdx? (ix3 e h k) idx = some (ix3 n h k) then u (ix3 e h k) else 0) = _
    simp only [lands3, and_true]
  · rintro ⟨g, c⟩ _ hc
    show (if (s3 N H C M wf).resultIdx? (ix3 e g c) idx = some (ix3 n h k) then u (ix3 e g c) else 0) = 0
    rw [if_neg]
    rw [lands3]
    rintro ⟨_, rfl, rfl⟩
    exact hc rfl
  · intro q; exact absurd (Finset.mem_univ _) q

/-- The host's maximum over one axis from the word of minus infinity, at an element: the fold of `max`. -/
theorem hostMax {s t u : Shape} {a : Fin s.rank} (x : FVec Ideal s .f32) (h : s.ReducesTo [a] t) (hu : 0 < u.numel)
    (h' : s.Reduces [a] t) (j : t.Idx) :
    Host.reduce (FloatOps.maximumf (F := Ideal) (φ := .f32)) x (constant u .f32 0xFF800000#32) h hu j
      = (Finset.univ : Finset (Fin (s.size a))).fold max (FloatOps.ofBits .f32 0xFF800000#32) (x ∘ h'.lift j) := by
  have e := hostReduce_maximumf_eq_multiReduction (F := Ideal) (φ := .f32) x (0xFF800000#32) h hu h' (Or.inl rfl) rfl
  refine (congrFun e j).trans ?_
  exact Ideal.multiReduction_maximumf_single x _ h' (Or.inl rfl) rfl j

end Cert.Proof.Rows
-- ==== Proof.KPay.lean ====
/- The first region's body read at an element: products with the weights and block maxima. -/
module

public import proofs.«01_k».proof.Proof.Spec
public import proofs.«01_k».proof.Proof.Rows
public import proofs.«01_k».proof.Proof.Gen.KernelIdeal.Skeleton
public import Idealize.ShloMosaic.Lib.Pipeline.Value
public import Idealize.ShloMosaic.Lib.ValueIdxCore
public import Idealize.ShloMosaic.Lib.ValueIdx

@[expose] public section

noncomputable section

namespace Cert.Proof.KPay

open Idealize.ShloMosaic Idealize.ShloMosaic.ValueIdx
open Cert.KernelIdeal Cert.KernelIdeal.Gen
open Cert.Proof.Spec Cert.Proof.Rows

/-- An array of a shape over the extended reals. -/
abbrev FA (s : Shape) := FVec Ideal s .f32

/-- The product of two matrices into a zero accumulator, when the record's two operand indices are the plain ones. -/
theorem mat {A K B : Nat} (d : DotDims ⟨2, ![A, K]⟩ ⟨2, ![K, B]⟩ ⟨2, ![A, B]⟩) (hr : d.contr.rank = 1)
    (hs : d.contr.size ⟨0, by omega⟩ = K)
    (hl : ∀ (j : Fin A) (q : Fin B) (k : Fin K), d.lhsIdx (ix2 j q) ((contrEquiv1 d K hr hs).symm k) = ix2 j k)
    (hq : ∀ (j : Fin A) (q : Fin B) (k : Fin K), d.rhsIdx (ix2 j q) ((contrEquiv1 d K hr hs).symm k) = ix2 k q)
    (x : FA ⟨2, ![A, K]⟩) (y : FA ⟨2, ![K, B]⟩) (j : Fin A) (q : Fin B) :
    @Eq EReal (matmul d none x y (constant (F := Ideal) ⟨2, ![A, B]⟩ .f32 0x00000000#32) (ix2 j q))
      (∑ k : Fin K, (x (ix2 j k) : EReal) * y (ix2 k q)) := by
  refine (Ideal.matmul_constant_zero_apply d none x y (ix2 j q)).trans ?_
  refine (Equiv.sum_comp (contrEquiv1 d K hr hs).symm _).symm.trans ?_
  refine Finset.sum_congr rfl fun k _ => ?_
  rw [hl, hq]

/-- The rows of a block times the two weight matrices. -/
theorem pay1_at (x : FA S2000x128) (w : FA S128x256) (j : Fin 2000) (q : Fin 256) :
    @Eq EReal (k0_pay1 (F := Ideal) x w (ix2 j q)) (∑ k : Fin 128, (x (ix2 j k) : EReal) * w (ix2 k q)) := by
  unfold k0_pay1
  have e : shapeCast S128x256 w shapeCasts_S128x256_S128x256 = w :=
    funext fun i => shapeCast_apply w _ i i rfl
  rw [e]
  refine mat dot_S2000x128_S128x256_S2000x256_1_0_0_1_n_n rfl rfl (fun j q k => ?_) (fun j q k => ?_) x w j q
  · funext a; match a with | ⟨0, _⟩ => rfl | ⟨1, _⟩ => rfl
  · funext a; match a with | ⟨0, _⟩ => rfl | ⟨1, _⟩ => rfl

/-- Column `j` of the first relation's features, among the columns of both. -/
def colL (j : Fin 128) : Fin 256 := ⟨j.val, by omega⟩
/-- Column `j` of the second relation's features, among the columns of both. -/
def colR (j : Fin 128) : Fin 256 := ⟨128 + j.val, by omega⟩

/-- The first relation's features. -/
theorem pay2_at (x : FA S2000x128) (w : FA S128x256) (j : Fin 2000) (q : Fin 128) :
    @Eq EReal (k0_pay2 (F := Ideal) x w (ix2 j q)) (∑ k : Fin 128, (x (ix2 j k) : EReal) * w (ix2 k (colL q))) := by
  unfold k0_pay2
  rw [extractStridedSlice_apply _ _ _ _ (ix2 j (colL q)) (fun a => by
    match a with
    | ⟨0, _⟩ => exact (Nat.zero_add _).symm
    | ⟨1, _⟩ => exact (Nat.zero_add _).symm)]
  exact pay1_at x w j (colL q)

/-- The second relation's features. -/
theorem pay3_at (x : FA S2000x128) (w : FA S128x256) (j : Fin 2000) (q : Fin 128) :
    @Eq EReal (k0_pay3 (F := Ideal) x w (ix2 j q)) (∑ k : Fin 128, (x (ix2 j k) : EReal) * w (ix2 k (colR q))) := by
  unfold k0_pay3
  rw [extractStridedSlice_apply _ _ _ _ (ix2 j (colR q)) (fun a => by
    match a with
    | ⟨0, _⟩ => exact (Nat.zero_add _).symm
    | ⟨1, _⟩ => rfl)]
  exact pay1_at x w j (colR q)

/-- The features times the attention table: the logits' halves. -/
theorem pay4_at (x : FA S2000x128) (w : FA S128x256) (A : FA S256x16) (j : Fin 2000) (p : Fin 16) :
    @Eq EReal (k0_pay4 (F := Ideal) x w A (ix2 j p))
      (∑ q : Fin 256, (∑ k : Fin 128, (x (ix2 j k) : EReal) * w (ix2 k q)) * A (ix2 q p)) := by
  unfold k0_pay4
  have e : shapeCast S256x16 A shapeCasts_S256x16_S256x16 = A :=
    funext fun i => shapeCast_apply A _ i i rfl
  rw [e]
  refine (mat dot_S2000x256_S256x16_S2000x16_1_0_0_1_n_n rfl rfl (fun j q k => ?_) (fun j q k => ?_) (k0_pay1 (F := Ideal) x w) A j p).trans ?_
  · funext a; match a with | ⟨0, _⟩ => rfl | ⟨1, _⟩ => rfl
  · funext a; match a with | ⟨0, _⟩ => rfl | ⟨1, _⟩ => rfl
  · refine Finset.sum_congr rfl fun q _ => ?_
    exact congrArg (fun z : EReal => z * A (ix2 q p)) (pay1_at x w j q)

/-- Each row of the block of maxima holds the largest of each column over the block's rows. -/
theorem pay5_at (x : FA S2000x128) (w : FA S128x256) (A : FA S256x16) (r : Fin 8) (p : Fin 16) :
    @Eq EReal (k0_pay5 (F := Ideal) x w A (ix2 r p))
      (Finset.univ.sup fun j : Fin 2000 => (k0_pay4 (F := Ideal) x w A (ix2 j p) : EReal)) := by
  unfold k0_pay5
  refine Eq.trans (b := shapeCast S1x16 (shapeCast S1x16 (multiReduction .maximumf [0] S16 (k0_pay4 (F := Ideal) x w A) 0xFF800000#32 reduces_S2000x16_S16 (.inl rfl) rfl)
    shapeCasts_S16_S1x16) shapeCasts_S1x16_S1x16 (ix2 (0 : Fin 1) p)) ?_ ?_
  · refine broadcastTo_apply _ _ _ (ix2 (0 : Fin 1) p) (fun a => ?_)
    match a with | ⟨0, _⟩ => rfl | ⟨1, _⟩ => rfl
  rw [shapeCast_apply _ _ (ix2 (0 : Fin 1) p) (ix2 (0 : Fin 1) p) rfl,
    shapeCast_apply _ _ (ix2 (0 : Fin 1) p) (ix1 p) (by
      rw [Shape.rowMajor_val_two, Shape.rowMajor_val_one]; show p.val = 0 * 16 + p.val; omega)]
  refine (Ideal.multiReduction_maximumf_single (k0_pay4 (F := Ideal) x w A) 0xFF800000#32 reduces_S2000x16_S16 (.inl rfl) rfl (ix1 p)).trans ?_
  refine Eq.trans ?_ (fold_max_bot _ _)
  refine congrArg₂ (fun (p : EReal) (q : Fin 2000 → EReal) => (Finset.univ : Finset (Fin 2000)).fold max p q) ofBits_bot ?_
  funext j
  exact congrArg (k0_pay4 (F := Ideal) x w A) (funext fun a => by match a with | ⟨0, _⟩ => rfl | ⟨1, _⟩ => rfl)

end Cert.Proof.KPay

end
-- ==== Proof.KMid.lean ====
/- What the kernel's host operations between the two regions compute, as functions of the arrays they read. -/
module

public import proofs.«01_k».proof.Proof.KPay
public import proofs.«01_k».proof.Proof.Gen.KernelIdeal.Frame
public import Idealize.ShloMosaic.Lib.StableHlo.RunRead

@[expose] public section

noncomputable section

namespace Cert.Proof.KMid

open Idealize.ShloMosaic Idealize.ShloMosaic.TcCoe Idealize.ShloMosaic.ValueIdx
open Idealize.ShloMosaic.StableHlo (after upto)
open Cert.KernelIdeal Cert.KernelIdeal.Gen
open Cert.Proof.KPay

/-- The edges' end nodes of one relation. -/
abbrev EI := IVec S256000 32

/-! The operations' results, named. -/

/-- Both relations' bounds side by side. -/
def both (a b : FA S4) : FA S8 := concatenate S8 0 [⟨S4, a⟩, ⟨S4, b⟩] concatenates_S4_S4_S8_d0
/-- The operation's term, named. -/
theorem both_fold (a b : FA S4) : concatenate S8 0 [⟨S4, a⟩, ⟨S4, b⟩] concatenates_S4_S4_S8_d0 = both a b := rfl
/-- A row of eight and eight more. -/
def wide (a b : FA S1x8) : FA S1x16 := concatenate S1x16 1 [⟨S1x8, a⟩, ⟨S1x8, b⟩] concatenates_S1x8_S1x8_S1x16_d1
/-- The operation's term, named. -/
theorem wide_fold (a b : FA S1x8) : concatenate S1x16 1 [⟨S1x8, a⟩, ⟨S1x8, b⟩] concatenates_S1x8_S1x8_S1x16_d1 = wide a b := rfl
/-- The largest of each column over all blocks. -/
def most (mx : FA S200x16) : FA S16 :=
  Host.reduce FloatOps.maximumf mx (constant (F := Ideal) S_ .f32 0xFF800000#32) reducesTo_S200x16_S16_d0 h_S_
/-- The sum of two groups' largest values, or zero where it is negative. -/
def cap (t : FA S16) (o o' : Fin 1 → Nat) (h : S16.Slices o S4) (h' : S16.Slices o' S4) : FA S4 :=
  maximumf (addf (extractStridedSlice S4 o t h) (extractStridedSlice S4 o' t h'))
    (broadcastInDim S4 ![] bcast_S_S4 (constant (F := Ideal) S_ .f32 0x00000000#32))
/-- The row of bounds the second region reads. -/
def bounds (mx : FA S200x16) : FA S1x16 :=
  wide (shapeCast S1x8 (both (cap (most mx) ![0] ![4] slices_S16_S4_0 slices_S16_S4_4) (cap (most mx) ![8] ![12] slices_S16_S4_8 slices_S16_S4_12))
    shapeCasts_S8_S1x8) (broadcastInDim S1x8 ![] bcast_S_S1x8 (constant (F := Ideal) S_ .f32 0x00000000#32))
/-- One relation's bounds, out of the row. -/
def capOf (r : FA S1x16) (o : Fin 2 → Nat) (h : S1x16.Slices o S1x4) : FA S4 := shapeCast S4 (extractStridedSlice S1x4 o r h) shapeCasts_S1x4_S4
/-- A column of end nodes, a negative word counted from the end. -/
def wrapCol (i : EI) : IVec S256000x1 32 :=
  broadcastInDim S256000x1 ![0] bcast_S256000_S256000x1_0
    (select (cmpi .slt i (broadcastInDim S256000 ![] bcast_S_S256000 (constantI S_ 32 0#32)))
      (addi i (broadcastInDim S256000 ![] bcast_S_S256000 (constantI S_ 32 50000#32))) i)
/-- A column of end nodes. -/
def rawCol (i : EI) : IVec S256000x1 32 := broadcastInDim S256000x1 ![0] bcast_S256000_S256000x1_0 i
/-- The rows of a table of heads at a column of words. -/
def take4 (s : FA S50000x4) (i : IVec S256000x1 32) : FA S256000x4 := Host.gather gather_S50000x4_S256000x1_S256000x4_1_0_n_n_0_1_14 s i
/-- The edges' logits. -/
def logits (s : FA S50000x16) (o o' : Fin 2 → Nat) (h : S50000x16.Slices o S50000x4) (h' : S50000x16.Slices o' S50000x4) (i j : EI) : FA S256000x4 :=
  addf (take4 (extractStridedSlice S50000x4 o s h) (wrapCol i)) (take4 (extractStridedSlice S50000x4 o' s h') (wrapCol j))
/-- The logits, a negative one scaled down. -/
def leaky (e : FA S256000x4) : FA S256000x4 :=
  select (cmpf .ogt e (broadcastInDim S256000x4 ![] bcast_S_S256000x4 (constant (F := Ideal) S_ .f32 0x00000000#32))) e
    (mulf (broadcastInDim S256000x4 ![] bcast_S_S256000x4 (constant (F := Ideal) S_ .f32 0x3E4CCCCD#32)) e)
/-- The edges' weights: the exponential of the logit less the bound. -/
def weights (l : FA S256000x4) (k : FA S4) : FA S256000x4 :=
  Host.exp (subf (leaky l) (broadcastInDim S256000x4 ![0, 1] bcast_S1x4_S256000x4_0_1 (broadcastInDim S1x4 ![1] bcast_S4_S1x4_1 k)))
/-- The weights added up at their target nodes. -/
def dens (e : FA S256000x4) (j : EI) : FA S50000x4 :=
  Host.scatterAdd scatter_S50000x4_S256000x1_S256000x4_1_0_0_1
    (broadcastInDim S50000x4 ![] bcast_S_S50000x4 (constant (F := Ideal) S_ .f32 0x00000000#32)) (rawCol j) e
/-- The weighted features of the source nodes. -/
def messages (e : FA S256000x4) (xl : FA S50000x128) (i : EI) : FA S256000x4x32 :=
  mulf (broadcastInDim S256000x4x32 ![0, 1, 2] bcast_S256000x4x1_S256000x4x32_0_1_2 (broadcastInDim S256000x4x1 ![0, 1] bcast_S256000x4_S256000x4x1_0_1 e))
    (Host.gather gather_S50000x4x32_S256000x1_S256000x4x32_12_0_n_n_0_1_1432 (shapeCast S50000x4x32 xl shapeCasts_S50000x128_S50000x4x32) (wrapCol i))
/-- The weighted features added up at their target nodes. -/
def nums (e : FA S256000x4) (xl : FA S50000x128) (i j : EI) : FA S50000x4x32 :=
  Host.scatterAdd scatter_S50000x4x32_S256000x1_S256000x4x32_12_0_0_1
    (broadcastInDim S50000x4x32 ![] bcast_S_S50000x4x32 (constant (F := Ideal) S_ .f32 0x00000000#32)) (rawCol j) (messages e xl i)
/-- One head of those sums. -/
def headOf (u : FA S50000x4x32) (o : Fin 3 → Nat) (h : S50000x4x32.Slices o S50000x1x32) : FA S50000x32 :=
  shapeCast S50000x32 (extractStridedSlice S50000x1x32 o u h) shapeCasts_S50000x1x32_S50000x32
/-- The sum of the biases as a row. -/
def biasRow (b b' : FA S128) : FA S1x128 := shapeCast S1x128 (addf b b') shapeCasts_S128_S1x128

/-! The names, to be put in place of the operations. -/

/-- The wrapped index column's term, named. -/
theorem wrap_fold (i : EI) : broadcastInDim S256000x1 ![0] bcast_S256000_S256000x1_0
    (select (cmpi .slt i (broadcastInDim S256000 ![] bcast_S_S256000 (constantI S_ 32 0#32)))
      (addi i (broadcastInDim S256000 ![] bcast_S_S256000 (constantI S_ 32 50000#32))) i) = wrapCol i := rfl
/-- The leaky branch's term, named. -/
theorem leaky_fold (e : FA S256000x4) : select (cmpf .ogt e (broadcastInDim S256000x4 ![] bcast_S_S256000x4 (constant (F := Ideal) S_ .f32 0x00000000#32))) e
    (mulf (broadcastInDim S256000x4 ![] bcast_S_S256000x4 (constant (F := Ideal) S_ .f32 0x3E4CCCCD#32)) e) = leaky e := rfl
/-- The bounds' term of one relation, named. -/
theorem cap_fold (t : FA S16) (o o' : Fin 1 → Nat) (h : S16.Slices o S4) (h' : S16.Slices o' S4) :
    maximumf (addf (extractStridedSlice S4 o t h) (extractStridedSlice S4 o' t h'))
      (broadcastInDim S4 ![] bcast_S_S4 (constant (F := Ideal) S_ .f32 0x00000000#32)) = cap t o o' h h' := rfl

variable (U : Valuation τ sig (Elt Ideal))

/-- The contents after all of these operations. -/
def mid : Valuation τ sig (Elt Ideal) :=
  after hostOps1_8 (after hostOps1_7 (after hostOps1_6 (after hostOps1_5 (after hostOps1_4 (after hostOps1_3 (after hostOps1_2 (after hostOps1_1
    (after hostOps1 U))))))))

/-- The first relation's bounds row. -/
theorem read_v126 : mid U (Proc.devRef .tc main_v126) = bounds (U (Proc.devRef .tc main_v113_3)) := by
  unfold mid
  after_reads_simp [both_fold, wide_fold]
  rfl

/-- The sum of the biases. -/
theorem read_v234 : mid U (Proc.devRef .tc main_v234) = biasRow (U (Proc.devRef .tc main_arg6)) (U (Proc.devRef .tc main_arg10)) := by
  unfold mid
  after_reads_simp
  rfl

/-- The first relation's weights, out of the arrays read. -/
def w0 : FA S256000x4 :=
  weights (logits (U (Proc.devRef .tc main_v113_2)) ![0, 0] ![0, 4] slices_S50000x16_S50000x4_0_0 slices_S50000x16_S50000x4_0_4
    (U (Proc.devRef .tc main_v1)) (U (Proc.devRef .tc main_v3))) (capOf (bounds (U (Proc.devRef .tc main_v113_3))) ![0, 0] slices_S1x16_S1x4_0_0)

/-- The first relation's denominators. -/
theorem read_v157 : mid U (Proc.devRef .tc main_v157) = dens (w0 U) (U (Proc.devRef .tc main_v3)) := by
  unfold mid
  after_reads_simp [both_fold, wide_fold, wrap_fold, leaky_fold, cap_fold]
  rfl

/-- The first relation's numerators, head 0. -/
theorem read_v173 : mid U (Proc.devRef .tc main_v173) =
    headOf (nums (w0 U) (U (Proc.devRef .tc main_v113_0)) (U (Proc.devRef .tc main_v1)) (U (Proc.devRef .tc main_v3))) ![0, 0, 0] slices_S50000x4x32_S50000x1x32_0_0_0 := by
  unfold mid
  after_reads_simp [both_fold, wide_fold, wrap_fold, leaky_fold, cap_fold]
  rfl

/-- The first relation's numerators, head 1. -/
theorem read_v175 : mid U (Proc.devRef .tc main_v175) =
    headOf (nums (w0 U) (U (Proc.devRef .tc main_v113_0)) (U (Proc.devRef .tc main_v1)) (U (Proc.devRef .tc main_v3))) ![0, 1, 0] slices_S50000x4x32_S50000x1x32_0_1_0 := by
  unfold mid
  after_reads_simp [both_fold, wide_fold, wrap_fold, leaky_fold, cap_fold]
  rfl

/-- The first relation's numerators, head 2. -/
theorem read_v177 : mid U (Proc.devRef .tc main_v177) =
    headOf (nums (w0 U) (U (Proc.devRef .tc main_v113_0)) (U (Proc.devRef .tc main_v1)) (U (Proc.devRef .tc main_v3))) ![0, 2, 0] slices_S50000x4x32_S50000x1x32_0_2_0 := by
  unfold mid
  after_reads_simp [both_fold, wide_fold, wrap_fold, leaky_fold, cap_fold]
  rfl

/-- The first relation's numerators, head 3. -/
theorem read_v179 : mid U (Proc.devRef .tc main_v179) =
    headOf (nums (w0 U) (U (Proc.devRef .tc main_v113_0)) (U (Proc.devRef .tc main_v1)) (U (Proc.devRef .tc main_v3))) ![0, 3, 0] slices_S50000x4x32_S50000x1x32_0_3_0 := by
  unfold mid
  after_reads_simp [both_fold, wide_fold, wrap_fold, leaky_fold, cap_fold]
  rfl

/-- The second relation's weights, out of the arrays read. -/
def w1 : FA S256000x4 :=
  weights (logits (U (Proc.devRef .tc main_v113_2)) ![0, 8] ![0, 12] slices_S50000x16_S50000x4_0_8 slices_S50000x16_S50000x4_0_12
    (U (Proc.devRef .tc main_v5)) (U (Proc.devRef .tc main_v7))) (capOf (bounds (U (Proc.devRef .tc main_v113_3))) ![0, 4] slices_S1x16_S1x4_0_4)

/-- The second relation's denominators. -/
theorem read_v210 : mid U (Proc.devRef .tc main_v210) = dens (w1 U) (U (Proc.devRef .tc main_v7)) := by
  unfold mid
  after_reads_simp [both_fold, wide_fold, wrap_fold, leaky_fold, cap_fold]
  rfl

/-- The second relation's numerators, head 0. -/
theorem read_v226 : mid U (Proc.devRef .tc main_v226) =
    headOf (nums (w1 U) (U (Proc.devRef .tc main_v113_1)) (U (Proc.devRef .tc main_v5)) (U (Proc.devRef .tc main_v7))) ![0, 0, 0] slices_S50000x4x32_S50000x1x32_0_0_0 := by
  unfold mid
  after_reads_simp [both_fold, wide_fold, wrap_fold, leaky_fold, cap_fold]
  rfl

/-- The second relation's numerators, head 1. -/
theorem read_v228 : mid U (Proc.devRef .tc main_v228) =
    headOf (nums (w1 U) (U (Proc.devRef .tc main_v113_1)) (U (Proc.devRef .tc main_v5)) (U (Proc.devRef .tc main_v7))) ![0, 1, 0] slices_S50000x4x32_S50000x1x32_0_1_0 := by
  unfold mid
  after_reads_simp [both_fold, wide_fold, wrap_fold, leaky_fold, cap_fold]
  rfl

/-- The second relation's numerators, head 2. -/
theorem read_v230 : mid U (Proc.devRef .tc main_v230) =
    headOf (nums (w1 U) (U (Proc.devRef .tc main_v113_1)) (U (Proc.devRef .tc main_v5)) (U (Proc.devRef .tc main_v7))) ![0, 2, 0] slices_S50000x4x32_S50000x1x32_0_2_0 := by
  unfold mid
  after_reads_simp [both_fold, wide_fold, wrap_fold, leaky_fold, cap_fold]
  rfl

/-- The second relation's numerators, head 3. -/
theorem read_v232 : mid U (Proc.devRef .tc main_v232) =
    headOf (nums (w1 U) (U (Proc.devRef .tc main_v113_1)) (U (Proc.devRef .tc main_v5)) (U (Proc.devRef .tc main_v7))) ![0, 3, 0] slices_S50000x4x32_S50000x1x32_0_3_0 := by
  unfold mid
  after_reads_simp [both_fold, wide_fold, wrap_fold, leaky_fold, cap_fold]
  rfl

end Cert.Proof.KMid

end
-- ==== Proof.KRegion0.lean ====
/- What the first region leaves: the features of both relations, the logits' halves, the block maxima. -/
module

public import proofs.«01_k».proof.Proof.KPay
public import proofs.«01_k».proof.Proof.Gen.KernelIdeal.Frame

@[expose] public section

noncomputable section

namespace Cert.Proof.KRegion0

open Idealize.ShloMosaic Idealize.ShloMosaic.TcCoe Idealize.ShloMosaic.ValueIdx
open Idealize.ShloMosaic.Pipeline (Dat)
open Cert.KernelIdeal Cert.KernelIdeal.Gen
open Cert.Proof.Spec Cert.Proof.KPay

variable (V : (c : Dev nD) → (b : Ref sig .tc) → Buf (Elt Ideal) ((c : Thread nD τ).loc b)) (c : Dev nD)

/-- Node `j` of block `t`. -/
def nodeIx (t : Fin 25) (j : Fin 2000) : Fin 50000 := ⟨2000 * t.val + j.val, by have := t.isLt; have := j.isLt; omega⟩
/-- The block of a node. -/
def blockOf (n : Fin 50000) : Fin 25 := ⟨n.val / 2000, by have := n.isLt; omega⟩
/-- The point that writes a row of maxima. -/
def pointOf (r : Fin 200) : Fin 25 := ⟨r.val / 8, by have := r.isLt; omega⟩
/-- A node's place in its block. -/
def placeOf (n : Fin 50000) : Fin 2000 := ⟨n.val % 2000, Nat.mod_lt _ (by omega)⟩
/-- Row `r` of the copies of block `t`'s maxima. -/
def copyIx (t : Fin 25) (r : Fin 8) : Fin 200 := ⟨8 * t.val + r.val, by have := t.isLt; have := r.isLt; omega⟩

/-- A node is at its place in its block. -/
theorem node_place (n : Fin 50000) : nodeIx (blockOf n) (placeOf n) = n :=
  Fin.ext (Nat.div_add_mod n.val 2000)

/-- The eight copies of a block's maximum belong to that block. -/
theorem copy_block (t : Fin 25) (r : Fin 8) (j : Fin 2000) : blockIx (copyIx t r) j = nodeIx t j :=
  Fin.ext (by
    have := r.isLt
    show 2000 * ((8 * t.val + r.val) / 8) + j.val = 2000 * t.val + j.val
    omega)

/-- An index of a matrix is a row and a column. -/
theorem exists_ix2 {A B : Nat} (y : (⟨2, ![A, B]⟩ : Shape).Idx) : ∃ (j : Fin A) (q : Fin B), y = ix2 j q :=
  ⟨y 0, y 1, funext fun a => by match a with | ⟨0, _⟩ => rfl | ⟨1, _⟩ => rfl⟩

/-- Two zeros, as a constant function. -/
theorem hz : (![0, 0] : Fin 2 → Nat) = fun _ => 0 := funext fun a => by match a with | ⟨0, _⟩ => rfl | ⟨1, _⟩ => rfl

/-- The windows' block indices: the row windows' is the point, the others' is zero. -/
theorem idx0 : ∀ t : Fin cfg0.N,
    (win0_0.index t 0 = t.val ∧ win0_0.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by decide +kernel

/-- The block of rows read at a point. -/
theorem iblk0_0_at (t : Fin cfg0.N) (j : Fin 2000) (k : Fin 128) :
    iblk0 V c 0 t (ix2 j k) = V c main_arg0 (ix2 (nodeIx t j) k) := by
  show V c main_arg0 ((win0_0.rect t).emb (ix2 j k)) = _
  refine congrArg (V c main_arg0) (funext fun a => Fin.ext ?_)
  have h := idx0 t
  match a with
  | ⟨0, _⟩ =>
    refine (win0_0.rect_emb_val t (ix2 j k) 0).trans ?_
    rw [h.1.1]; show t.val * 2000 + j.val = 2000 * t.val + j.val; omega
  | ⟨1, _⟩ =>
    refine (win0_0.rect_emb_val t (ix2 j k) 1).trans ?_
    rw [h.1.2]; show 0 * 128 + k.val = k.val; omega

/-- The weights are read whole at every point. -/
theorem iblk0_1_at (t : Fin cfg0.N) : iblk0 V c 1 t = V c main_v8 := by
  funext y
  show V c main_v8 ((win0_1.rect t).emb y) = _
  refine congrArg (V c main_v8) (funext fun a => Fin.ext ?_)
  have h : ∀ t : Fin cfg0.N, win0_1.index t 0 = 0 ∧ win0_1.index t 1 = 0 := by decide +kernel
  match a with
  | ⟨0, _⟩ => exact win0_1.rect_emb_val_of_index_zero t 0 (h t).1 y
  | ⟨1, _⟩ => exact win0_1.rect_emb_val_of_index_zero t 1 (h t).2 y

/-- The attention table is read whole at every point. -/
theorem iblk0_2_at (t : Fin cfg0.N) : iblk0 V c 2 t = V c main_v112 := by
  funext y
  show V c main_v112 ((win0_2.rect t).emb y) = _
  refine congrArg (V c main_v112) (funext fun a => Fin.ext ?_)
  have h : ∀ t : Fin cfg0.N, win0_2.index t 0 = 0 ∧ win0_2.index t 1 = 0 := by decide +kernel
  match a with
  | ⟨0, _⟩ => exact win0_2.rect_emb_val_of_index_zero t 0 (h t).1 y
  | ⟨1, _⟩ => exact win0_2.rect_emb_val_of_index_zero t 1 (h t).2 y

/-- The product of a row of the features' table with a column of the weights. -/
def prod (x : FA S50000x128) (w : FA S128x256) (n : Fin 50000) (q : Fin 256) : EReal :=
  ∑ k : Fin 128, (x (ix2 n k) : EReal) * w (ix2 k q)

/-- A node's logits' halves: the products times the attention table. -/
def score (x : FA S50000x128) (w : FA S128x256) (A : FA S256x16) (n : Fin 50000) (p : Fin 16) : EReal :=
  ∑ q : Fin 256, prod x w n q * A (ix2 q p)

/-- The largest of a column of halves over the block that row `r` of the maxima belongs to. -/
def peak (x : FA S50000x128) (w : FA S128x256) (A : FA S256x16) (r : Fin 200) (p : Fin 16) : EReal :=
  Finset.univ.sup fun j : Fin 2000 => score x w A (blockIx r j) p

/-- The arrays the region reads. -/
abbrev xA : FA S50000x128 := V c main_arg0
/-- The two weight matrices side by side, as the region reads them. -/
abbrev wA : FA S128x256 := V c main_v8
/-- The attention table, as the region reads it. -/
abbrev aA : FA S256x16 := V c main_v112

/-- A row of a block against a column of the weights is that node's product. -/
theorem block_prod (t : Fin cfg0.N) (j : Fin 2000) (q : Fin 256) (X : FA S2000x128) (Wt : FA S128x256)
    (hX : X = iblk0 V c 0 t) (hW : Wt = iblk0 V c 1 t) :
    (∑ k : Fin 128, (X (ix2 j k) : EReal) * Wt (ix2 k q)) = prod (xA V c) (wA V c) (nodeIx t j) q := by
  subst hX hW
  rw [iblk0_1_at]
  exact Finset.sum_congr rfl fun k _ => congrArg (fun z : EReal => z * wA V c (ix2 k q)) (iblk0_0_at V c t j k)

/-- A block's score is that node's score. -/
theorem block_score (t : Fin cfg0.N) (j : Fin 2000) (p : Fin 16) :
    @Eq EReal (k0_pay4 (F := Ideal) (iblk0 V c 0 t) (iblk0 V c 1 t) (iblk0 V c 2 t) (ix2 j p))
      (score (xA V c) (wA V c) (aA V c) (nodeIx t j) p) := by
  refine (pay4_at (iblk0 V c 0 t) (iblk0 V c 1 t) (iblk0 V c 2 t) j p).trans ?_
  refine Finset.sum_congr rfl fun q _ => ?_
  refine congrArg₂ (fun a b : EReal => a * b) (block_prod V c t j q _ _ rfl rfl) ?_
  exact congrArg (fun A : FA S256x16 => (A (ix2 q p) : EReal)) (iblk0_2_at V c t)

/-- The first relation's features, as the region leaves them. -/
theorem arr0_3 (n : Fin 50000) (q : Fin 128) :
    @Eq EReal ((dat0 V c).arrAt 3 cfg0.N (ix2 n q)) (prod (xA V c) (wA V c) n (colL q)) := by
  refine congrFun ((dat0 V c).arrAt_eq_of_cover 3 (fun i => prod (xA V c) (wA V c) (i 0) (colL (i 1))) (fun t _ => ?_) (fun i => ?_)) (ix2 n q)
  · funext y
    obtain ⟨j, p, rfl⟩ := exists_ix2 y
    show (dat0 V c).after 3 t (ix2 j p) = prod (xA V c) (wA V c) ((win0_3.rect t).emb (ix2 j p) 0) (colL ((win0_3.rect t).emb (ix2 j p) 1))
    rw [after0_3]
    unfold out0_3
    rw [View.canon_unit_zero hz, View.ld_unit_zero hz, View.ld_unit_zero hz]
    refine ((pay2_at (iblk0 V c 0 t) (iblk0 V c 1 t) j p).trans (block_prod V c t j (colL p) _ _ rfl rfl)).trans ?_
    have h := idx0 t
    refine congrArg₂ (fun (a : Fin 50000) (b : Fin 128) => prod (xA V c) (wA V c) a (colL b)) (Fin.ext ?_) (Fin.ext ?_)
    · refine Eq.trans ?_ (win0_3.rect_emb_val t (ix2 j p) 0).symm
      rw [h.2.1.1]; show 2000 * t.val + j.val = t.val * 2000 + j.val; omega
    · refine Eq.trans ?_ (win0_3.rect_emb_val t (ix2 j p) 1).symm
      rw [h.2.1.2]; show p.val = 0 * 128 + p.val; omega
  · obtain ⟨n, p, rfl⟩ := exists_ix2 i
    refine ⟨blockOf n, flush0_3 _, ?_⟩
    show ix2 n p ∈ ((View.whole main_v113_0).slice (win0_3.rect (blockOf n))).set
    rw [View.set_slice_whole, Rect.mem_set_unit]
    intro a
    have h := idx0 (blockOf n)
    have hn := n.isLt
    have hp := p.isLt
    match a with
    | ⟨0, _⟩ =>
      show win0_3.index (blockOf n) 0 * 2000 ≤ n.val ∧ n.val < win0_3.index (blockOf n) 0 * 2000 + 2000
      rw [h.2.1.1]; show n.val / 2000 * 2000 ≤ n.val ∧ n.val < n.val / 2000 * 2000 + 2000; omega
    | ⟨1, _⟩ =>
      show win0_3.index (blockOf n) 1 * 128 ≤ p.val ∧ p.val < win0_3.index (blockOf n) 1 * 128 + 128
      rw [h.2.1.2]; omega

/-- The second relation's features, as the region leaves them. -/
theorem arr0_4 (n : Fin 50000) (q : Fin 128) :
    @Eq EReal ((dat0 V c).arrAt 4 cfg0.N (ix2 n q)) (prod (xA V c) (wA V c) n (colR q)) := by
  refine congrFun ((dat0 V c).arrAt_eq_of_cover 4 (fun i => prod (xA V c) (wA V c) (i 0) (colR (i 1))) (fun t _ => ?_) (fun i => ?_)) (ix2 n q)
  · funext y
    obtain ⟨j, p, rfl⟩ := exists_ix2 y
    show (dat0 V c).after 4 t (ix2 j p) = prod (xA V c) (wA V c) ((win0_4.rect t).emb (ix2 j p) 0) (colR ((win0_4.rect t).emb (ix2 j p) 1))
    rw [after0_4]
    unfold out0_4
    rw [View.canon_unit_zero hz, View.ld_unit_zero hz, View.ld_unit_zero hz]
    refine ((pay3_at (iblk0 V c 0 t) (iblk0 V c 1 t) j p).trans (block_prod V c t j (colR p) _ _ rfl rfl)).trans ?_
    have h := idx0 t
    refine congrArg₂ (fun (a : Fin 50000) (b : Fin 128) => prod (xA V c) (wA V c) a (colR b)) (Fin.ext ?_) (Fin.ext ?_)
    · refine Eq.trans ?_ (win0_4.rect_emb_val t (ix2 j p) 0).symm
      rw [h.2.2.1.1]; show 2000 * t.val + j.val = t.val * 2000 + j.val; omega
    · refine Eq.trans ?_ (win0_4.rect_emb_val t (ix2 j p) 1).symm
      rw [h.2.2.1.2]; show p.val = 0 * 128 + p.val; omega
  · obtain ⟨n, p, rfl⟩ := exists_ix2 i
    refine ⟨blockOf n, flush0_4 _, ?_⟩
    show ix2 n p ∈ ((View.whole main_v113_1).slice (win0_4.rect (blockOf n))).set
    rw [View.set_slice_whole, Rect.mem_set_unit]
    intro a
    have h := idx0 (blockOf n)
    have hn := n.isLt
    have hp := p.isLt
    match a with
    | ⟨0, _⟩ =>
      show win0_4.index (blockOf n) 0 * 2000 ≤ n.val ∧ n.val < win0_4.index (blockOf n) 0 * 2000 + 2000
      rw [h.2.2.1.1]; show n.val / 2000 * 2000 ≤ n.val ∧ n.val < n.val / 2000 * 2000 + 2000; omega
    | ⟨1, _⟩ =>
      show win0_4.index (blockOf n) 1 * 128 ≤ p.val ∧ p.val < win0_4.index (blockOf n) 1 * 128 + 128
      rw [h.2.2.1.2]; omega

/-- The logits' halves, as the region leaves them. -/
theorem arr0_5 (n : Fin 50000) (q : Fin 16) :
    @Eq EReal ((dat0 V c).arrAt 5 cfg0.N (ix2 n q)) (score (xA V c) (wA V c) (aA V c) n q) := by
  refine congrFun ((dat0 V c).arrAt_eq_of_cover 5 (fun i => score (xA V c) (wA V c) (aA V c) (i 0) (i 1)) (fun t _ => ?_) (fun i => ?_)) (ix2 n q)
  · funext y
    obtain ⟨j, p, rfl⟩ := exists_ix2 y
    show (dat0 V c).after 5 t (ix2 j p) = score (xA V c) (wA V c) (aA V c) ((win0_5.rect t).emb (ix2 j p) 0) ((win0_5.rect t).emb (ix2 j p) 1)
    rw [after0_5]
    unfold out0_5
    rw [View.canon_unit_zero hz, View.ld_unit_zero hz, View.ld_unit_zero hz, View.ld_unit_zero hz]
    refine (block_score V c t j p).trans ?_
    have h := idx0 t
    refine congrArg₂ (fun (a : Fin 50000) (b : Fin 16) => score (xA V c) (wA V c) (aA V c) a b) (Fin.ext ?_) (Fin.ext ?_)
    · refine Eq.trans ?_ (win0_5.rect_emb_val t (ix2 j p) 0).symm
      rw [h.2.2.2.1.1]; show 2000 * t.val + j.val = t.val * 2000 + j.val; omega
    · refine Eq.trans ?_ (win0_5.rect_emb_val t (ix2 j p) 1).symm
      rw [h.2.2.2.1.2]; show p.val = 0 * 16 + p.val; omega
  · obtain ⟨n, p, rfl⟩ := exists_ix2 i
    refine ⟨blockOf n, flush0_5 _, ?_⟩
    show ix2 n p ∈ ((View.whole main_v113_2).slice (win0_5.rect (blockOf n))).set
    rw [View.set_slice_whole, Rect.mem_set_unit]
    intro a
    have h := idx0 (blockOf n)
    have hn := n.isLt
    have hp := p.isLt
    match a with
    | ⟨0, _⟩ =>
      show win0_5.index (blockOf n) 0 * 2000 ≤ n.val ∧ n.val < win0_5.index (blockOf n) 0 * 2000 + 2000
      rw [h.2.2.2.1.1]; show n.val / 2000 * 2000 ≤ n.val ∧ n.val < n.val / 2000 * 2000 + 2000; omega
    | ⟨1, _⟩ =>
      show win0_5.index (blockOf n) 1 * 16 ≤ p.val ∧ p.val < win0_5.index (blockOf n) 1 * 16 + 16
      rw [h.2.2.2.1.2]; omega

/-- The block maxima of the logits' halves, as the region leaves them. -/
theorem arr0_6 (n : Fin 200) (q : Fin 16) :
    @Eq EReal ((dat0 V c).arrAt 6 cfg0.N (ix2 n q)) (peak (xA V c) (wA V c) (aA V c) n q) := by
  refine congrFun ((dat0 V c).arrAt_eq_of_cover 6 (fun i => peak (xA V c) (wA V c) (aA V c) (i 0) (i 1)) (fun t _ => ?_) (fun i => ?_)) (ix2 n q)
  · funext y
    obtain ⟨j, p, rfl⟩ := exists_ix2 y
    show (dat0 V c).after 6 t (ix2 j p) = peak (xA V c) (wA V c) (aA V c) ((win0_6.rect t).emb (ix2 j p) 0) ((win0_6.rect t).emb (ix2 j p) 1)
    rw [after0_6]
    unfold out0_6
    rw [View.canon_unit_zero hz, View.ld_unit_zero hz, View.ld_unit_zero hz, View.ld_unit_zero hz]
    refine ((pay5_at (iblk0 V c 0 t) (iblk0 V c 1 t) (iblk0 V c 2 t) j p).trans (Finset.sup_congr rfl fun i _ => (block_score V c t i p).trans (congrArg (fun m => score (xA V c) (wA V c) (aA V c) m p) (copy_block t j i).symm))).trans ?_
    have h := idx0 t
    refine congrArg₂ (fun (a : Fin 200) (b : Fin 16) => peak (xA V c) (wA V c) (aA V c) a b) (Fin.ext ?_) (Fin.ext ?_)
    · refine Eq.trans ?_ (win0_6.rect_emb_val t (ix2 j p) 0).symm
      rw [h.2.2.2.2.1]; show 8 * t.val + j.val = t.val * 8 + j.val; omega
    · refine Eq.trans ?_ (win0_6.rect_emb_val t (ix2 j p) 1).symm
      rw [h.2.2.2.2.2]; show p.val = 0 * 16 + p.val; omega
  · obtain ⟨n, p, rfl⟩ := exists_ix2 i
    refine ⟨pointOf n, flush0_6 _, ?_⟩
    show ix2 n p ∈ ((View.whole main_v113_3).slice (win0_6.rect (pointOf n))).set
    rw [View.set_slice_whole, Rect.mem_set_unit]
    intro a
    have h := idx0 (pointOf n)
    have hn := n.isLt
    have hp := p.isLt
    match a with
    | ⟨0, _⟩ =>
      show win0_6.index (pointOf n) 0 * 8 ≤ n.val ∧ n.val < win0_6.index (pointOf n) 0 * 8 + 8
      rw [h.2.2.2.2.1]; show n.val / 8 * 8 ≤ n.val ∧ n.val < n.val / 8 * 8 + 8; omega
    | ⟨1, _⟩ =>
      show win0_6.index (pointOf n) 1 * 16 ≤ p.val ∧ p.val < win0_6.index (pointOf n) 1 * 16 + 16
      rw [h.2.2.2.2.2]; omega

end Cert.Proof.KRegion0

end
-- ==== Proof.KTable.lean ====
/- The tables the kernel builds before its first region: both relations' weights side by side, and the four
   attention vectors written out as columns. -/
module

public import proofs.«01_k».proof.Proof.KRegion0
public import Idealize.ShloMosaic.Lib.StableHlo.RunRead
public import Idealize.ShloMosaic.Lib.Routing.OpsOne

@[expose] public section

noncomputable section

namespace Cert.Proof.KTable

open Idealize.ShloMosaic Idealize.ShloMosaic.TcCoe Idealize.ShloMosaic.ValueIdx
open Idealize.ShloMosaic.StableHlo (after)
open Cert.KernelIdeal Cert.KernelIdeal.Gen
open Cert.Proof.Spec Cert.Proof.KPay Cert.Proof.KRegion0

/-! The operations' results, named. -/

/-- Two index words side by side. -/
def pair (a b : IVec S1 32) : IVec S2 32 := concatenate S2 0 [⟨S1, a⟩, ⟨S1, b⟩] concatenates_S1_S1_S2_d0
/-- The operation's term, named. -/
theorem pair_fold (a b : IVec S1 32) : concatenate S2 0 [⟨S1, a⟩, ⟨S1, b⟩] concatenates_S1_S1_S2_d0 = pair a b := rfl
/-- Two blocks of weights side by side. -/
def beside (a b : FA S128x128) : FA S128x256 := concatenate S128x256 1 [⟨S128x128, a⟩, ⟨S128x128, b⟩] concatenates_S128x128_S128x128_S128x256_d1
/-- The operation's term, named. -/
theorem beside_fold (a b : FA S128x128) :
    concatenate S128x256 1 [⟨S128x128, a⟩, ⟨S128x128, b⟩] concatenates_S128x128_S128x128_S128x256_d1 = beside a b := rfl
/-- Four tables of heads side by side. -/
def four (a b c d : FA S128x4) : FA S128x16 :=
  concatenate S128x16 1 [⟨S128x4, a⟩, ⟨S128x4, b⟩, ⟨S128x4, c⟩, ⟨S128x4, d⟩] concatenates_S128x4_S128x4_S128x4_S128x4_S128x16_d1
/-- The operation's term, named. -/
theorem four_fold (a b c d : FA S128x4) :
    concatenate S128x16 1 [⟨S128x4, a⟩, ⟨S128x4, b⟩, ⟨S128x4, c⟩, ⟨S128x4, d⟩] concatenates_S128x4_S128x4_S128x4_S128x4_S128x16_d1
      = four a b c d := rfl
/-- One table above another. -/
def above (a b : FA S128x16) : FA S256x16 := concatenate S256x16 0 [⟨S128x16, a⟩, ⟨S128x16, b⟩] concatenates_S128x16_S128x16_S256x16_d0
/-- The operation's term, named. -/
theorem above_fold (a b : FA S128x16) :
    concatenate S256x16 0 [⟨S128x16, a⟩, ⟨S128x16, b⟩] concatenates_S128x16_S128x16_S256x16_d0 = above a b := rfl

/-- One index word. -/
def word (w : BitVec 32) : IVec S1 32 := broadcastInDim S1 ![] bcast_S_S1 (constantI S_ 32 w)
/-- The operation's term, named. -/
theorem word_fold (w : BitVec 32) : broadcastInDim S1 ![] bcast_S_S1 (constantI S_ 32 w) = word w := rfl
/-- A table of zeros. -/
def none4 : FA S128x4 := broadcastInDim S128x4 ![] bcast_S_S128x4 (constant (F := Ideal) S_ .f32 0x00000000#32)
/-- The table with 32 entries written from row `i` of column `j`. -/
def put (x : FA S128x4) (i j : BitVec 32) (u : FA S32) : FA S128x4 :=
  Host.scatter scatter_S128x4_S2_S32_0_1_01_0 (fun _ b => b) x (pair (word i) (word j)) u
/-- The operation's term, named. -/
theorem put_fold (x : FA S128x4) (i j : BitVec 32) (u : FA S32) :
    Host.scatter scatter_S128x4_S2_S32_0_1_01_0 (fun _ b => b) x (pair (word i) (word j)) u = put x i j u := rfl
/-- One head's attention vector. -/
def vec (a : FA S1x4x32) (off : Fin 3 → Nat) (h : S1x4x32.Slices off S1x1x32) : FA S32 :=
  shapeCast S32 (extractStridedSlice S1x1x32 off a h) shapeCasts_S1x1x32_S32
/-- The four heads' attention vectors, each down its own column. -/
def heads (a : FA S1x4x32) : FA S128x4 :=
  put (put (put (put none4 0#32 0#32 (vec a ![0, 0, 0] slices_S1x4x32_S1x1x32_0_0_0))
    32#32 1#32 (vec a ![0, 1, 0] slices_S1x4x32_S1x1x32_0_1_0))
    64#32 2#32 (vec a ![0, 2, 0] slices_S1x4x32_S1x1x32_0_2_0))
    96#32 3#32 (vec a ![0, 3, 0] slices_S1x4x32_S1x1x32_0_3_0)
/-- The attention table of both relations. -/
def table (a b a' b' : FA S1x4x32) : FA S256x16 :=
  above (four (heads a) (heads b) none4 none4) (four none4 none4 (heads a') (heads b'))

/-- The weights the first region reads. -/
theorem read_v8 (U : Valuation τ sig (Elt Ideal)) :
    after hostOps0 U (Proc.devRef .tc main_v8) = beside (U (Proc.devRef .tc main_arg3)) (U (Proc.devRef .tc main_arg7)) := by
  after_reads_simp [beside_fold]

/-! Read at an element. -/

/-- The two words of a pair. -/
theorem pair_at (i j : BitVec 32) : pair (word i) (word j) (ix1 (0 : Fin 2)) = i ∧ pair (word i) (word j) (ix1 (1 : Fin 2)) = j := by
  unfold pair
  constructor
  · refine (concatenate_pair_apply_left (t := S2) (s₁ := S1) (s₂ := S1) 0 _ _ concatenates_S1_S1_S2_d0 _ rfl (ix1 (0 : Fin 1))
      (fun b => by match b with | ⟨0, _⟩ => rfl)).trans rfl
  · refine (concatenate_pair_apply_right (t := S2) (s₁ := S1) (s₂ := S1) 0 _ _ concatenates_S1_S1_S2_d0 _ rfl rfl (ix1 (0 : Fin 1))
      (fun b hb => absurd (Subsingleton.elim _ _) hb) rfl).trans rfl

/-- A place in a head's 32 columns. -/
def inHead (q : Fin 128) : Fin 32 := ⟨q.val % 32, Nat.mod_lt _ (by omega)⟩

/-- A table after a head's vector is written into it, at an element. -/
theorem put_at (x : FA S128x4) (i j : BitVec 32) (u : FA S32) (k : Fin 4) (hi : i.toInt = 32 * (k.val : Int)) (hj : j.toInt = (k.val : Int))
    (q : Fin 128) (h : Fin 4) :
    put x i j u (ix2 q h) = if h = k ∧ q.val / 32 = k.val then u (ix1 (inHead q)) else x (ix2 q h) := by
  have e := pair_at i j
  refine (Routing.scatter_column_signed (R := 128) (C := 4) (U := 32) scatter_S128x4_S2_S32_0_1_01_0 (by omega) rfl rfl rfl x
    (pair (word i) (word j)) u (ix2 q h)).trans ?_
  rw [e.1, e.2]
  have hq := q.isLt
  have hk := k.isLt
  have hh := h.isLt
  by_cases c : h = k ∧ q.val / 32 = k.val
  · rw [if_pos c, if_pos ⟨by rw [hj, c.1], by rw [hi]; show 32 * (k.val : Int) ≤ (q.val : Int); omega,
      by rw [hi]; show (q.val : Int) < 32 * (k.val : Int) + (32 : Nat); omega⟩]
    refine congrArg (fun c : Fin 32 => u (ix1 c)) (Fin.ext ?_)
    show ((q.val : Int) - i.toInt).toNat % 32 = q.val % 32
    rw [hi]; omega
  · rw [if_neg c, if_neg]
    rintro ⟨h1, h2, h3⟩
    rw [hj] at h1; rw [hi] at h2 h3
    have h1' : (k.val : Int) = (h.val : Int) := h1
    have h2' : 32 * (k.val : Int) ≤ (q.val : Int) := h2
    have h3' : (q.val : Int) < 32 * (k.val : Int) + (32 : Nat) := h3
    exact c ⟨Fin.ext (by omega), by omega⟩

/-- A head's vector at a channel. -/
theorem vec_at (a : FA S1x4x32) (off : Fin 3 → Nat) (hs : S1x4x32.Slices off S1x1x32) (h : Fin 4) (ho : off = ![0, h.val, 0]) (c : Fin 32) :
    vec a off hs (ix1 c) = a (ix3 (0 : Fin 1) h c) := by
  subst ho
  unfold vec
  rw [shapeCast_apply _ _ (ix1 c) (ix3 (0 : Fin 1) (0 : Fin 1) c) (by
    rw [Shape.rowMajor_val_three, Shape.rowMajor_val_one]; show (0 * 1 + 0) * 32 + c.val = c.val; omega)]
  refine extractStridedSlice_apply _ _ _ _ (ix3 (0 : Fin 1) h c) (fun b => ?_)
  match b with
  | ⟨0, _⟩ => rfl
  | ⟨1, _⟩ => exact (Nat.add_zero _).symm
  | ⟨2, _⟩ => exact (Nat.zero_add _).symm

/-- The empty table is zero everywhere. -/
theorem none4_at (i : S128x4.Idx) : @Eq EReal (none4 i) 0 := Ideal.ofBits_zero_f32

/-- A column of the table holds its head's vector in the rows of that head, and zero elsewhere. -/
theorem heads_at (a : FA S1x4x32) (q : Fin 128) (h : Fin 4) :
    @Eq EReal (heads a (ix2 q h)) (if q.val / 32 = h.val then (a (ix3 (0 : Fin 1) h (inHead q)) : EReal) else 0) := by
  unfold heads
  rw [put_at _ 96#32 3#32 _ 3 (by decide) (by decide), put_at _ 64#32 2#32 _ 2 (by decide) (by decide),
    put_at _ 32#32 1#32 _ 1 (by decide) (by decide), put_at _ 0#32 0#32 _ 0 (by decide) (by decide),
    vec_at a ![0, 3, 0] _ 3 rfl, vec_at a ![0, 2, 0] _ 2 rfl, vec_at a ![0, 1, 0] _ 1 rfl, vec_at a ![0, 0, 0] _ 0 rfl]
  have hq : q.val / 32 = 0 ∨ q.val / 32 = 1 ∨ q.val / 32 = 2 ∨ q.val / 32 = 3 := by have := q.isLt; omega
  match h with
  | ⟨0, _⟩ => rcases hq with e | e | e | e <;> first | (simp [e]; done) | (simp [e]; exact none4_at _)
  | ⟨1, _⟩ => rcases hq with e | e | e | e <;> first | (simp [e]; done) | (simp [e]; exact none4_at _)
  | ⟨2, _⟩ => rcases hq with e | e | e | e <;> first | (simp [e]; done) | (simp [e]; exact none4_at _)
  | ⟨3, _⟩ => rcases hq with e | e | e | e <;> first | (simp [e]; done) | (simp [e]; exact none4_at _)

end Cert.Proof.KTable

end
-- ==== Proof.KScore.lean ====
/- The first region's arrays at inputs named by functions: features, halves of the logits, block maxima. -/
module

public import proofs.«01_k».proof.Proof.KTable

@[expose] public section

noncomputable section

namespace Cert.Proof.KScore

open Idealize.ShloMosaic Idealize.ShloMosaic.ValueIdx
open Cert.KernelIdeal Cert.KernelIdeal.Gen
open Cert.Proof.Spec Cert.Proof.KPay Cert.Proof.KRegion0 Cert.Proof.KTable

/-- The column of head `h` in the group `g` of four columns. -/
def slot (g h : Fin 4) : Fin 16 := ⟨4 * g.val + h.val, by have := g.isLt; have := h.isLt; omega⟩

/-! The weights. -/

/-- The left of two blocks of weights. -/
theorem beside_left (a b : FA S128x128) (k q : Fin 128) : beside a b (ix2 k (colL q)) = a (ix2 k q) := by
  unfold beside
  exact concatenate_pair_apply_left (t := S128x256) (s₁ := S128x128) (s₂ := S128x128) 1 a b concatenates_S128x128_S128x128_S128x256_d1 _ rfl
    (ix2 k q) (fun b => by match b with | ⟨0, _⟩ => rfl | ⟨1, _⟩ => rfl)

/-- The right of two blocks of weights. -/
theorem beside_right (a b : FA S128x128) (k q : Fin 128) : beside a b (ix2 k (colR q)) = b (ix2 k q) := by
  unfold beside
  refine concatenate_pair_apply_right (t := S128x256) (s₁ := S128x128) (s₂ := S128x128) 1 a b concatenates_S128x128_S128x128_S128x256_d1 _ rfl rfl
    (ix2 k q) (fun b hb => ?_) (by show q.val + 128 = 128 + q.val; omega)
  match b with
  | ⟨0, _⟩ => rfl
  | ⟨1, _⟩ => exact absurd rfl hb

/-! The attention table. -/

/-- The table of a group. -/
def pick (f : Fin 4 → FA S128x4) : FA S128x16 := four (f 0) (f 1) (f 2) (f 3)

/-- A group's column of a table of four groups. -/
theorem pick_at (f : Fin 4 → FA S128x4) (q : Fin 128) (g h : Fin 4) : pick f (ix2 q (slot g h)) = f g (ix2 q h) := by
  unfold pick four
  have hh : ∀ b : Fin 2, b.cast (rfl : S128x4.rank = S128x16.rank) ≠ 1 → (ix2 q h b).val = (ix2 q (slot g h) (b.cast (rfl : S128x4.rank = S128x16.rank))).val := by
    intro b hb
    match b with
    | ⟨0, _⟩ => rfl
    | ⟨1, _⟩ => exact absurd rfl hb
  match g, hh with
  | ⟨0, _⟩, hh => exact concatenate_apply_piece (t := S128x16) 1 [⟨S128x4, f 0⟩, ⟨S128x4, f 1⟩, ⟨S128x4, f 2⟩, ⟨S128x4, f 3⟩] _ _ 0 (show 0 < 4 by decide) S128x4 (f 0) rfl rfl 0 rfl (ix2 q h) hh rfl
  | ⟨1, _⟩, hh => exact concatenate_apply_piece (t := S128x16) 1 [⟨S128x4, f 0⟩, ⟨S128x4, f 1⟩, ⟨S128x4, f 2⟩, ⟨S128x4, f 3⟩] _ _ 1 (show 1 < 4 by decide) S128x4 (f 1) rfl rfl 4 rfl (ix2 q h) hh rfl
  | ⟨2, _⟩, hh => exact concatenate_apply_piece (t := S128x16) 1 [⟨S128x4, f 0⟩, ⟨S128x4, f 1⟩, ⟨S128x4, f 2⟩, ⟨S128x4, f 3⟩] _ _ 2 (show 2 < 4 by decide) S128x4 (f 2) rfl rfl 8 rfl (ix2 q h) hh rfl
  | ⟨3, _⟩, hh => exact concatenate_apply_piece (t := S128x16) 1 [⟨S128x4, f 0⟩, ⟨S128x4, f 1⟩, ⟨S128x4, f 2⟩, ⟨S128x4, f 3⟩] _ _ 3 (show 3 < 4 by decide) S128x4 (f 3) rfl rfl 12 rfl (ix2 q h) hh rfl

/-- The upper of two tables. -/
theorem above_top (a b : FA S128x16) (q : Fin 128) (p : Fin 16) : above a b (ix2 (colL q) p) = a (ix2 q p) := by
  unfold above
  exact concatenate_pair_apply_left (t := S256x16) (s₁ := S128x16) (s₂ := S128x16) 0 a b concatenates_S128x16_S128x16_S256x16_d0 _ rfl
    (ix2 q p) (fun b => by match b with | ⟨0, _⟩ => rfl | ⟨1, _⟩ => rfl)

/-- The lower of two tables. -/
theorem above_bot (a b : FA S128x16) (q : Fin 128) (p : Fin 16) : above a b (ix2 (colR q) p) = b (ix2 q p) := by
  unfold above
  refine concatenate_pair_apply_right (t := S256x16) (s₁ := S128x16) (s₂ := S128x16) 0 a b concatenates_S128x16_S128x16_S256x16_d0 _ rfl rfl
    (ix2 q p) (fun b hb => ?_) (by show q.val + 128 = 128 + q.val; omega)
  match b with
  | ⟨0, _⟩ => exact absurd rfl hb
  | ⟨1, _⟩ => rfl

/-- The table of a head's vector: its entries in its own rows. -/
def spread (a : Fin 4 → Fin 32 → EReal) (q : Fin 128) (h : Fin 4) : EReal := if q.val / 32 = h.val then a h (inHead q) else 0

/-- A row of features against a head's column keeps that head's entries. -/
theorem sum_spread (a : Fin 4 → Fin 32 → EReal) (f : Fin 128 → EReal) (h : Fin 4) :
    ∑ q : Fin 128, f q * spread a q h = ∑ c : Fin 32, f (col h c) * a h c := by
  have e := Equiv.sum_comp (finProdFinEquiv (m := 4) (n := 32)) fun q : Fin 128 => f q * spread a q h
  refine e.symm.trans ?_
  rw [Fintype.sum_prod_type]
  have key : ∀ (h' : Fin 4) (c : Fin 32), finProdFinEquiv (m := 4) (n := 32) (h', c) = col h' c := fun h' c =>
    Fin.ext (by show c.val + 32 * h'.val = 32 * h'.val + c.val; omega)
  have hs : ∀ (h' : Fin 4) (c : Fin 32), spread a (col h' c) h = if h' = h then a h c else 0 := by
    intro h' c
    have hc := c.isLt
    have e1 : (col h' c).val / 32 = h'.val := by show (32 * h'.val + c.val) / 32 = h'.val; omega
    have e2 : inHead (col h' c) = c := Fin.ext (by show (32 * h'.val + c.val) % 32 = c.val; omega)
    unfold spread
    rw [e1, e2]
    by_cases hh : h' = h
    · rw [if_pos hh, if_pos (congrArg Fin.val hh)]
    · rw [if_neg hh, if_neg (fun x => hh (Fin.ext x))]
  rw [Finset.sum_eq_single h (fun h' _ hh => Finset.sum_eq_zero fun c _ => by rw [key, hs, if_neg hh, mul_zero])
    (fun hh => absurd (Finset.mem_univ _) hh)]
  exact Finset.sum_congr rfl fun c _ => by rw [key, hs, if_pos rfl]

variable (X : Fin 50000 → Fin 128 → EReal) (W W' : Fin 128 → Fin 128 → EReal)
  (x : FA S50000x128) (w w' : FA S128x128)
  (hX : ∀ n k, @Eq EReal (x (ix2 n k)) (X n k : EReal)) (hW : ∀ k j, @Eq EReal (w (ix2 k j)) (W k j : EReal))
  (hW' : ∀ k j, @Eq EReal (w' (ix2 k j)) (W' k j : EReal))

include hX hW in
/-- The first relation's features. -/
theorem prod_left (n : Fin 50000) (q : Fin 128) : prod x (beside w w') n (colL q) = (feat X W n q : EReal) := by
  unfold prod feat
  refine Finset.sum_congr rfl fun k _ => ?_
  rw [beside_left]
  exact congrArg₂ (fun a b : EReal => a * b) (hX n k) (hW k q)

include hX hW' in
/-- The second relation's features. -/
theorem prod_right (n : Fin 50000) (q : Fin 128) : prod x (beside w w') n (colR q) = (feat X W' n q : EReal) := by
  unfold prod feat
  refine Finset.sum_congr rfl fun k _ => ?_
  rw [beside_right]
  exact congrArg₂ (fun a b : EReal => a * b) (hX n k) (hW' k q)

/-- A group's columns of the scores: the two relations' features against the two halves of the columns. -/
theorem score_split (f f' : Fin 4 → FA S128x4) (n : Fin 50000) (g h : Fin 4) (P P' S S' : Fin 128 → EReal)
    (hP : ∀ q, prod x (beside w w') n (colL q) = (P q : EReal)) (hP' : ∀ q, prod x (beside w w') n (colR q) = (P' q : EReal))
    (s s' : FA S128x4) (hf : f g = s) (hf' : f' g = s')
    (hS : ∀ q, @Eq EReal (s (ix2 q h)) (S q : EReal)) (hS' : ∀ q, @Eq EReal (s' (ix2 q h)) (S' q : EReal)) :
    score x (beside w w') (above (pick f) (pick f')) n (slot g h) = ((∑ q, P q * S q) + ∑ q, P' q * S' q : EReal) := by
  subst hf hf'
  unfold score
  refine (Fin.sum_univ_add (M := EReal) (a := 128) (b := 128) _).trans ?_
  refine congrArg₂ (fun a b : EReal => a + b) ?_ ?_
  · refine Finset.sum_congr rfl fun q _ => ?_
    refine congrArg₂ (fun a b : EReal => a * b) (hP q) ?_
    exact ((above_top _ _ q _).trans (pick_at f q g h)).trans (hS q)
  · refine Finset.sum_congr rfl fun q _ => ?_
    refine congrArg₂ (fun a b : EReal => a * b) (hP' q) ?_
    exact ((above_bot _ _ q _).trans (pick_at f' q g h)).trans (hS' q)

/-- A relation's table of heads, at a row and a head. -/
theorem heads_named (a : FA S1x4x32) (A : Fin 4 → Fin 32 → EReal) (ha : ∀ h c, @Eq EReal (a (ix3 (0 : Fin 1) h c)) (A h c : EReal))
    (q : Fin 128) (h : Fin 4) : @Eq EReal (heads a (ix2 q h)) (spread A q h : EReal) := by
  refine (heads_at a q h).trans ?_
  unfold spread
  by_cases e : q.val / 32 = h.val
  · rw [if_pos e, if_pos e]; exact ha h _
  · rw [if_neg e, if_neg e]

variable (a b a' b' : FA S1x4x32) (A B A' B' : Fin 4 → Fin 32 → EReal)
  (ha : ∀ h c, @Eq EReal (a (ix3 (0 : Fin 1) h c)) (A h c : EReal)) (hb : ∀ h c, @Eq EReal (b (ix3 (0 : Fin 1) h c)) (B h c : EReal))
  (ha' : ∀ h c, @Eq EReal (a' (ix3 (0 : Fin 1) h c)) (A' h c : EReal)) (hb' : ∀ h c, @Eq EReal (b' (ix3 (0 : Fin 1) h c)) (B' h c : EReal))

/-- Four tables side by side, as a family over the groups. -/
theorem four_eq (p q r s : FA S128x4) : four p q r s = pick ![p, q, r, s] := rfl
/-- The first of four tables. -/
theorem sel_0 (p q r s : FA S128x4) : ![p, q, r, s] 0 = p := rfl
/-- The second of four tables. -/
theorem sel_1 (p q r s : FA S128x4) : ![p, q, r, s] 1 = q := rfl
/-- The third of four tables. -/
theorem sel_2 (p q r s : FA S128x4) : ![p, q, r, s] 2 = r := rfl
/-- The last of four tables. -/
theorem sel_3 (p q r s : FA S128x4) : ![p, q, r, s] 3 = s := rfl

/-- The attention table: two groups of the first relation above two of the second. -/
theorem table_eq : table a b a' b' = above (pick ![heads a, heads b, none4, none4]) (pick ![none4, none4, heads a', heads b']) := by
  unfold table
  rw [four_eq, four_eq]

/-- A column of the empty table. -/
theorem zero_col (q : Fin 128) (h : Fin 4) : @Eq EReal (none4 (ix2 q h)) ((fun _ : Fin 128 => (0 : EReal)) q : EReal) := none4_at _

include hX hW hW' ha in
/-- The source halves of the first relation's logits. -/
theorem score_0 (n : Fin 50000) (h : Fin 4) : score x (beside w w') (table a b a' b') n (slot 0 h) = (half X W A h n : EReal) := by
  rw [table_eq, score_split x w w' _ _ n 0 h _ _ _ (fun _ => 0) (prod_left X W x w w' hX hW n) (prod_right X W' x w w' hX hW' n) _ _ (sel_0 _ _ _ _) (sel_0 _ _ _ _)
    (fun q => heads_named a A ha q h) (fun q => zero_col q h), sum_spread]
  simp only [mul_zero, Finset.sum_const_zero, add_zero]
  rfl

include hX hW hW' hb in
/-- The destination halves of the first relation's logits. -/
theorem score_1 (n : Fin 50000) (h : Fin 4) : score x (beside w w') (table a b a' b') n (slot 1 h) = (half X W B h n : EReal) := by
  rw [table_eq, score_split x w w' _ _ n 1 h _ _ _ (fun _ => 0) (prod_left X W x w w' hX hW n) (prod_right X W' x w w' hX hW' n) _ _ (sel_1 _ _ _ _) (sel_1 _ _ _ _)
    (fun q => heads_named b B hb q h) (fun q => zero_col q h), sum_spread]
  simp only [mul_zero, Finset.sum_const_zero, add_zero]
  rfl

include hX hW hW' ha' in
/-- The source halves of the second relation's logits. -/
theorem score_2 (n : Fin 50000) (h : Fin 4) : score x (beside w w') (table a b a' b') n (slot 2 h) = (half X W' A' h n : EReal) := by
  rw [table_eq, score_split x w w' _ _ n 2 h _ _ (fun _ => 0) _ (prod_left X W x w w' hX hW n) (prod_right X W' x w w' hX hW' n) _ _ (sel_2 _ _ _ _) (sel_2 _ _ _ _)
    (fun q => zero_col q h) (fun q => heads_named a' A' ha' q h), sum_spread]
  simp only [mul_zero, Finset.sum_const_zero, zero_add]
  rfl

include hX hW hW' hb' in
/-- The destination halves of the second relation's logits. -/
theorem score_3 (n : Fin 50000) (h : Fin 4) : score x (beside w w') (table a b a' b') n (slot 3 h) = (half X W' B' h n : EReal) := by
  rw [table_eq, score_split x w w' _ _ n 3 h _ _ (fun _ => 0) _ (prod_left X W x w w' hX hW n) (prod_right X W' x w w' hX hW' n) _ _ (sel_3 _ _ _ _) (sel_3 _ _ _ _)
    (fun q => zero_col q h) (fun q => heads_named b' B' hb' q h), sum_spread]
  simp only [mul_zero, Finset.sum_const_zero, zero_add]
  rfl

end Cert.Proof.KScore

end
-- ==== Proof.KMidAt.lean ====
/- The arrays between the two regions read at an element. -/
module

public import proofs.«01_k».proof.Proof.KMid
public import proofs.«01_k».proof.Proof.KScore

@[expose] public section

noncomputable section

namespace Cert.Proof.KMidAt

open Idealize.ShloMosaic Idealize.ShloMosaic.ValueIdx
open Cert.KernelIdeal Cert.KernelIdeal.Gen
open Cert.Proof.Spec Cert.Proof.Rows Cert.Proof.KPay Cert.Proof.KMid Cert.Proof.KScore

/-! Index columns. -/

/-- The wrapped index column at an edge. -/
theorem wrapCol_at (i : EI) (e : Fin 256000) : wrapCol i (ix2 e (0 : Fin 1)) = wrap (i (ix1 e)) := by
  unfold wrapCol
  refine (broadcastInDim_apply _ _ _ _ (ix1 e) (fun a => by match a with | ⟨0, _⟩ => rfl)).trans ?_
  rfl

/-- The index column at an edge. -/
theorem rawCol_at (i : EI) (e : Fin 256000) : rawCol i (ix2 e (0 : Fin 1)) = i (ix1 e) := by
  unfold rawCol
  exact broadcastInDim_apply _ _ _ _ (ix1 e) (fun a => by match a with | ⟨0, _⟩ => rfl)

/-! Taken rows. -/

/-- The rows an edge's word takes of a table of four columns. -/
theorem take4_at (s : FA S50000x4) (i : EI) (e : Fin 256000) (h : Fin 4) :
    take4 s (wrapCol i) (ix2 e h) = s (ix2 (row (i (ix1 e))) h) := by
  unfold take4
  refine (gather2 (by decide) gather_S50000x4_S256000x1_S256000x4_1_0_n_n_0_1_14.wf s (wrapCol i) e h).trans ?_
  refine congrArg (fun m : Fin 50000 => s (ix2 m h)) (Fin.ext ?_)
  show min (wrapCol i (ix2 e 0)).toInt.toNat (50000 - 1) = min (wrap (i (ix1 e))).toInt.toNat (50000 - 1)
  exact congrArg (fun v : BitVec 32 => min v.toInt.toNat (50000 - 1)) (wrapCol_at i e)

/-- Four columns of the table of halves, at an element. -/
theorem slice4_at (s : FA S50000x16) (o : Fin 2 → Nat) (h : S50000x16.Slices o S50000x4) (g : Fin 4) (h0 : o 0 = 0) (h1 : o 1 = 4 * g.val)
    (n : Fin 50000) (k : Fin 4) : extractStridedSlice S50000x4 o s h (ix2 n k) = s (ix2 n (slot g k)) := by
  refine extractStridedSlice_apply _ _ _ _ (ix2 n (slot g k)) (fun a => ?_)
  match a with
  | ⟨0, _⟩ => show n.val = o 0 + n.val; omega
  | ⟨1, _⟩ => show 4 * g.val + k.val = o 1 + k.val; omega

/-- An edge's logit: the sum of its two end nodes' halves. -/
theorem logits_at (s : FA S50000x16) (o o' : Fin 2 → Nat) (h : S50000x16.Slices o S50000x4) (h' : S50000x16.Slices o' S50000x4) (i j : EI)
    (g g' : Fin 4) (h0 : o 0 = 0) (h1 : o 1 = 4 * g.val) (h0' : o' 0 = 0) (h1' : o' 1 = 4 * g'.val) (A B : Fin 4 → Fin 50000 → EReal)
    (hA : ∀ n k, @Eq EReal (s (ix2 n (slot g k))) (A k n : EReal)) (hB : ∀ n k, @Eq EReal (s (ix2 n (slot g' k))) (B k n : EReal))
    (e : Fin 256000) (k : Fin 4) :
    @Eq EReal (logits s o o' h h' i j (ix2 e k)) ((A k (row (i (ix1 e))) + B k (row (j (ix1 e))) : EReal)) := by
  unfold logits
  refine congrArg₂ (fun p q : EReal => p + q) ?_ ?_
  · rw [take4_at, slice4_at s o h g h0 h1]; exact hA _ _
  · rw [take4_at, slice4_at s o' h' g' h0' h1']; exact hB _ _

/-- The leaky branch of an element. -/
theorem leaky_at (l : FA S256000x4) (i : S256000x4.Idx) (z : EReal) (hz : @Eq EReal (l i) (z : EReal)) : @Eq EReal (leaky l i) (leak z : EReal) := by
  refine Eq.trans ?_ (leak_gt z)
  have e0 : @Eq EReal (FloatOps.ofBits (F := Ideal) .f32 0x00000000#32) 0 := Ideal.ofBits_zero_f32
  have e1 : @Eq EReal (FloatOps.ofBits (F := Ideal) .f32 0x3E4CCCCD#32) ((sl : ℝ) : EReal) := ofBits_sl
  show Scalar.select (Ideal.cmp .ogt (l i) (FloatOps.ofBits (F := Ideal) .f32 0x00000000#32)) (l i)
    ((FloatOps.ofBits (F := Ideal) .f32 0x3E4CCCCD#32 : EReal) * (l i : EReal)) = _
  rw [hz, e0, e1]

/-- An edge's weight. -/
theorem weights_at (l : FA S256000x4) (k : FA S4) (e : Fin 256000) (h : Fin 4) (z K : EReal) (hz : @Eq EReal (l (ix2 e h)) (z : EReal))
    (hK : @Eq EReal (k (ix1 h)) (K : EReal)) : @Eq EReal (weights l k (ix2 e h)) (Ideal.exp (leak z - K) : EReal) := by
  have e1 : broadcastInDim S256000x4 ![0, 1] bcast_S1x4_S256000x4_0_1 (broadcastInDim S1x4 ![1] bcast_S4_S1x4_1 k) (ix2 e h) = k (ix1 h) := by
    refine (broadcastInDim_apply _ _ _ _ (ix2 (0 : Fin 1) h) (fun a => by match a with | ⟨0, _⟩ => rfl | ⟨1, _⟩ => rfl)).trans ?_
    exact broadcastInDim_apply _ _ _ _ (ix1 h) (fun a => by match a with | ⟨0, _⟩ => rfl)
  exact hostExp_sub (leaky_at l (ix2 e h) z hz) (e1.trans hK)

/-- The weights added up at a node. -/
theorem dens_at (w : FA S256000x4) (j : EI) (f : Fin 256000 → EReal) (h : Fin 4) (hw : ∀ e, @Eq EReal (w (ix2 e h)) (f e : EReal)) (n : Fin 50000) :
    @Eq EReal (dens w j (ix2 n h)) ((∑ e : Fin 256000, if (j (ix1 e)).toInt = (n.val : Int) then f e else 0 : EReal)) := by
  unfold dens
  refine (scatter2 scatter_S50000x4_S256000x1_S256000x4_1_0_0_1.wf _ _ _ n h).trans ?_
  refine Eq.trans ?_ (zero_add _)
  refine congrArg₂ (fun p q : EReal => p + q) Ideal.ofBits_zero_f32 ?_
  refine Finset.sum_congr rfl fun e _ => ?_
  exact if_hit (rawCol_at j e) fun _ => hw e

/-- A weighted feature of an edge's source. -/
theorem messages_at (w : FA S256000x4) (xl : FA S50000x128) (i : EI) (e : Fin 256000) (h : Fin 4) (c : Fin 32) (p : EReal) (x : Fin 50000 → EReal)
    (hw : @Eq EReal (w (ix2 e h)) (p : EReal)) (hx : ∀ m, @Eq EReal (xl (ix2 m (col h c))) (x m : EReal)) :
    @Eq EReal (messages w xl i (ix3 e h c)) ((p * x (row (i (ix1 e))) : EReal)) := by
  have h1 := h.isLt
  have h2 := c.isLt
  unfold messages
  refine congrArg₂ (fun a b : EReal => a * b) ?_ ?_
  · refine Eq.trans ?_ hw
    refine (broadcastInDim_apply _ _ _ _ (ix3 e h (0 : Fin 1)) (fun a => by match a with | ⟨0, _⟩ => rfl | ⟨1, _⟩ => rfl | ⟨2, _⟩ => rfl)).trans ?_
    exact broadcastInDim_apply _ _ _ _ (ix2 e h) (fun a => by match a with | ⟨0, _⟩ => rfl | ⟨1, _⟩ => rfl)
  · refine Eq.trans ?_ (hx _)
    refine (gather3 (by decide) gather_S50000x4x32_S256000x1_S256000x4x32_12_0_n_n_0_1_1432.wf _ (wrapCol i) e h c).trans ?_
    refine (congrArg (fun m : Fin 50000 => shapeCast S50000x4x32 xl shapeCasts_S50000x128_S50000x4x32 (ix3 m h c)) (a₂ := row (i (ix1 e))) (Fin.ext ?_)).trans ?_
    · show min (wrapCol i (ix2 e 0)).toInt.toNat (50000 - 1) = min (wrap (i (ix1 e))).toInt.toNat (50000 - 1)
      exact congrArg (fun v : BitVec 32 => min v.toInt.toNat (50000 - 1)) (wrapCol_at i e)
    · refine shapeCast_apply _ _ _ (ix2 (row (i (ix1 e))) (col h c)) ?_
      rw [Shape.rowMajor_val_three, Shape.rowMajor_val_two]
      show (row (i (ix1 e))).val * 128 + (32 * h.val + c.val) = ((row (i (ix1 e))).val * 4 + h.val) * 32 + c.val
      omega

/-- The weighted features added up at a node. -/
theorem nums_at (w : FA S256000x4) (xl : FA S50000x128) (i j : EI) (f : Fin 256000 → EReal) (x : Fin 50000 → EReal) (h : Fin 4) (c : Fin 32)
    (hw : ∀ e, @Eq EReal (w (ix2 e h)) (f e : EReal)) (hx : ∀ m, @Eq EReal (xl (ix2 m (col h c))) (x m : EReal)) (n : Fin 50000) :
    @Eq EReal (nums w xl i j (ix3 n h c))
      ((∑ e : Fin 256000, if (j (ix1 e)).toInt = (n.val : Int) then f e * x (row (i (ix1 e))) else 0 : EReal)) := by
  unfold nums
  refine (scatter3 scatter_S50000x4x32_S256000x1_S256000x4x32_12_0_0_1.wf _ _ _ n h c).trans ?_
  refine Eq.trans ?_ (zero_add _)
  refine congrArg₂ (fun p q : EReal => p + q) Ideal.ofBits_zero_f32 ?_
  refine Finset.sum_congr rfl fun e _ => ?_
  exact if_hit (rawCol_at j e) fun _ => messages_at w xl i e h c (f e) x (hw e) hx

/-- One head of an array of heads. -/
theorem headOf_at (u : FA S50000x4x32) (o : Fin 3 → Nat) (hs : S50000x4x32.Slices o S50000x1x32) (h : Fin 4) (h0 : o 0 = 0) (h1 : o 1 = h.val)
    (h2 : o 2 = 0) (n : Fin 50000) (c : Fin 32) : headOf u o hs (ix2 n c) = u (ix3 n h c) := by
  unfold headOf
  refine (shapeCast_apply _ _ _ (ix3 n (0 : Fin 1) c) ?_).trans ?_
  · rw [Shape.rowMajor_val_three, Shape.rowMajor_val_two]
    show (n.val * 1 + 0) * 32 + c.val = n.val * 32 + c.val
    omega
  · refine extractStridedSlice_apply _ _ _ _ (ix3 n h c) (fun a => ?_)
    match a with
    | ⟨0, _⟩ => show n.val = o 0 + n.val; omega
    | ⟨1, _⟩ => show h.val = o 1 + 0; omega
    | ⟨2, _⟩ => show c.val = o 2 + c.val; omega

/-! The bounds. -/

/-- The largest of a column of halves, over all blocks: the largest over all nodes. -/
theorem most_at (mx : FA S200x16) (q : Fin 16) (f : Fin 50000 → EReal)
    (hm : ∀ r, @Eq EReal (mx (ix2 r q)) (Finset.univ.sup fun j : Fin 2000 => ((f (blockIx r j) : EReal) : EReal))) :
    @Eq EReal (most mx (ix1 q)) (top f : EReal) := by
  unfold most
  have hr : Shape.Reduces S200x16 [0] S16 := by decide
  refine (hostMax mx reducesTo_S200x16_S16_d0 h_S_ hr (ix1 q)).trans ?_
  refine Eq.trans ?_ (sup_blocks fun n => ((f n : EReal) : EReal))
  refine Eq.trans ?_ (fold_max_bot _ _)
  refine congrArg₂ (fun (p : EReal) (q : Fin 200 → EReal) => (Finset.univ : Finset (Fin 200)).fold max p q) ofBits_bot ?_
  funext r
  have hi : hr.lift (ix1 q) r = ix2 r q := funext fun a => by match a with | ⟨0, _⟩ => rfl | ⟨1, _⟩ => rfl
  show mx (hr.lift (ix1 q) r) = _
  rw [hi]
  exact hm r

/-- Four entries of the sixteen maxima, at an element. -/
theorem slice1_at (t : FA S16) (o : Fin 1 → Nat) (h : S16.Slices o S4) (g : Fin 4) (h0 : o 0 = 4 * g.val) (k : Fin 4) :
    extractStridedSlice S4 o t h (ix1 k) = t (ix1 (slot g k)) := by
  refine extractStridedSlice_apply _ _ _ _ (ix1 (slot g k)) (fun a => ?_)
  match a with
  | ⟨0, _⟩ => show 4 * g.val + k.val = o 0 + k.val; omega

/-- The bound of a relation at a head. -/
theorem cap_at (t : FA S16) (o o' : Fin 1 → Nat) (h : S16.Slices o S4) (h' : S16.Slices o' S4) (g g' : Fin 4) (h0 : o 0 = 4 * g.val)
    (h0' : o' 0 = 4 * g'.val) (A B : Fin 50000 → EReal) (k : Fin 4) (hA : @Eq EReal (t (ix1 (slot g k))) (top A : EReal))
    (hB : @Eq EReal (t (ix1 (slot g' k))) (top B : EReal)) : @Eq EReal (cap t o o' h h' (ix1 k)) (bound A B : EReal) := by
  have e1 := (slice1_at t o h g h0 k).trans hA
  have e2 := (slice1_at t o' h' g' h0' k).trans hB
  have e0 : @Eq EReal (FloatOps.ofBits (F := Ideal) .f32 0x00000000#32) 0 := Ideal.ofBits_zero_f32
  show max ((extractStridedSlice S4 o t h (ix1 k) : EReal) + (extractStridedSlice S4 o' t h' (ix1 k) : EReal)) (FloatOps.ofBits (F := Ideal) .f32 0x00000000#32) = _
  rw [e1, e2, e0]
  rfl

/-- Place `k` of the first four, and of the next four, of the bounds. -/
def lo (k : Fin 4) : Fin 16 := ⟨k.val, by omega⟩
/-- The place of head `k` of the second relation among sixteen bounds. -/
def hi (k : Fin 4) : Fin 16 := ⟨4 + k.val, by omega⟩
/-- The place of head `k` of the first relation among eight bounds. -/
def lo8 (k : Fin 4) : Fin 8 := ⟨k.val, by omega⟩
/-- The place of head `k` of the second relation among eight bounds. -/
def hi8 (k : Fin 4) : Fin 8 := ⟨4 + k.val, by omega⟩

/-- The first four of eight bounds. -/
theorem both_lo (a b : FA S4) (k : Fin 4) : both a b (ix1 (lo8 k)) = a (ix1 k) := by
  unfold both
  exact concatenate_pair_apply_left (t := S8) (s₁ := S4) (s₂ := S4) 0 _ _ concatenates_S4_S4_S8_d0 _ rfl (ix1 k)
    (fun b => by match b with | ⟨0, _⟩ => rfl)

/-- The last four of eight bounds. -/
theorem both_hi (a b : FA S4) (k : Fin 4) : both a b (ix1 (hi8 k)) = b (ix1 k) := by
  unfold both
  exact concatenate_pair_apply_right (t := S8) (s₁ := S4) (s₂ := S4) 0 _ _ concatenates_S4_S4_S8_d0 _ rfl rfl (ix1 k)
    (fun b hb => absurd (Subsingleton.elim _ _) hb) (by show k.val + 4 = 4 + k.val; omega)

/-- The first eight of sixteen places. -/
theorem wide_at (a b : FA S1x8) (q : Fin 16) (q' : Fin 8) (h : q'.val = q.val) : wide a b (ix2 (0 : Fin 1) q) = a (ix2 (0 : Fin 1) q') := by
  unfold wide
  exact concatenate_pair_apply_left (t := S1x16) (s₁ := S1x8) (s₂ := S1x8) 1 _ _ concatenates_S1x8_S1x8_S1x16_d1 _ rfl (ix2 (0 : Fin 1) q')
    (fun b => by match b with | ⟨0, _⟩ => rfl | ⟨1, _⟩ => exact h)

/-- Eight values laid out as a row, at a place. -/
theorem flat8_at (v : FA S8) (q : Fin 8) : shapeCast S1x8 v shapeCasts_S8_S1x8 (ix2 (0 : Fin 1) q) = v (ix1 q) := by
  refine shapeCast_apply _ _ _ (ix1 q) ?_
  rw [Shape.rowMajor_val_two, Shape.rowMajor_val_one]
  show q.val = 0 * 8 + q.val
  omega

section

variable (mx : FA S200x16) (A B A' B' : Fin 4 → Fin 50000 → EReal)
  (hm : ∀ (g : Fin 4) (k : Fin 4) r, @Eq EReal (mx (ix2 r (slot g k)))
    (Finset.univ.sup fun j : Fin 2000 => (((![A, B, A', B'] g) k (blockIx r j) : EReal) : EReal)))

include hm in
/-- The first relation's bound at a head. -/
theorem bounds_lo (k : Fin 4) : @Eq EReal (bounds mx (ix2 (0 : Fin 1) (lo k))) (bound (A k) (B k) : EReal) := by
  unfold bounds
  rw [wide_at _ _ (lo k) (lo8 k) rfl, flat8_at, both_lo]
  exact cap_at _ _ _ _ _ 0 1 rfl rfl _ _ k (most_at mx _ _ (hm 0 k)) (most_at mx _ _ (hm 1 k))

include hm in
/-- The second relation's bound at a head. -/
theorem bounds_hi (k : Fin 4) : @Eq EReal (bounds mx (ix2 (0 : Fin 1) (hi k))) (bound (A' k) (B' k) : EReal) := by
  unfold bounds
  rw [wide_at _ _ (hi k) (hi8 k) rfl, flat8_at, both_hi]
  exact cap_at _ _ _ _ _ 2 3 rfl rfl _ _ k (most_at mx _ _ (hm 2 k)) (most_at mx _ _ (hm 3 k))

/-- Four places of the row of bounds, at a head. -/
theorem capOf_at (r : FA S1x16) (o : Fin 2 → Nat) (h : S1x16.Slices o S1x4) (k : Fin 4) (q : Fin 16) (h0 : o 0 = 0) (h1 : o 1 + k.val = q.val) :
    capOf r o h (ix1 k) = r (ix2 (0 : Fin 1) q) := by
  unfold capOf
  refine (shapeCast_apply _ _ _ (ix2 (0 : Fin 1) k) ?_).trans ?_
  · rw [Shape.rowMajor_val_two, Shape.rowMajor_val_one]
    show 0 * 4 + k.val = k.val
    omega
  · refine extractStridedSlice_apply _ _ _ _ (ix2 (0 : Fin 1) q) (fun a => ?_)
    match a with
    | ⟨0, _⟩ => show 0 = o 0 + 0; omega
    | ⟨1, _⟩ => exact h1.symm

end

/-- The sum of the biases at a column. -/
theorem biasRow_at (b b' : FA S128) (q : Fin 128) :
    @Eq EReal (biasRow b b' (ix2 (0 : Fin 1) q)) ((b (ix1 q) : EReal) + (b' (ix1 q) : EReal)) := by
  unfold biasRow
  refine shapeCast_apply _ _ _ (ix1 q) ?_
  rw [Shape.rowMajor_val_two, Shape.rowMajor_val_one]
  show q.val = 0 * 128 + q.val
  omega

end Cert.Proof.KMidAt

end
-- ==== Proof.KPay1.lean ====
/- The second region's body read at an element: the quotients with the self loops, both relations, the bias. -/
module

public import proofs.«01_k».proof.Proof.KScore

@[expose] public section

noncomputable section

namespace Cert.Proof.KPay1

open Idealize.ShloMosaic Idealize.ShloMosaic.ValueIdx
open Cert.KernelIdeal Cert.KernelIdeal.Gen
open Cert.Proof.Spec Cert.Proof.KPay Cert.Proof.KScore Cert.Proof.KRegion0

/-- The self loops' weights of a block. -/
def loops (s : FA S2000x16) (r : FA S1x16) (o o' ok : Fin 2 → Nat) (h : S2000x16.Slices o S2000x4) (h' : S2000x16.Slices o' S2000x4)
    (hk : S1x16.Slices ok S1x4) : FA S2000x4 :=
  let l : FA S2000x4 := addf (extractStridedSlice S2000x4 o s h) (extractStridedSlice S2000x4 o' s h')
  exp (subf (select (cmpf .ogt l (broadcast S2000x4 (Scalar.ofBits .f32 0x00000000#32))) l (mulf (broadcast S2000x4 (Scalar.ofBits .f32 0x3E4CCCCD#32)) l))
    (broadcastTo S2000x4 (extractStridedSlice S1x4 ok r hk) broadcasts_S1x4_S2000x4))

/-- One head's quotient. -/
def ratio (u : FA S2000x32) (ex dn : FA S2000x4) (xl : FA S2000x128) (o ox : Fin 2 → Nat) (h : S2000x4.Slices o S2000x1)
    (hx : S2000x128.Slices ox S2000x32) : FA S2000x32 :=
  divf (addf u (mulf (broadcastTo S2000x32 (extractStridedSlice S2000x1 o ex h) broadcasts_S2000x1_S2000x32) (extractStridedSlice S2000x32 ox xl hx)))
    (broadcastTo S2000x32 (addf (extractStridedSlice S2000x1 o dn h) (broadcast S2000x1 (Scalar.ofBits .f32 0x24E69595#32))) broadcasts_S2000x1_S2000x32)

/-- Four heads side by side. -/
def joined (p q r s : FA S2000x32) : FA S2000x128 :=
  concatenate S2000x128 1 [⟨S2000x32, p⟩, ⟨S2000x32, q⟩, ⟨S2000x32, r⟩, ⟨S2000x32, s⟩] concatenates_S2000x32_S2000x32_S2000x32_S2000x32_S2000x128_d1

/-- One relation's quotients. -/
def rel (ex dn : FA S2000x4) (xl : FA S2000x128) (u0 u1 u2 u3 : FA S2000x32) : FA S2000x128 :=
  joined (ratio u0 ex dn xl ![0, 0] ![0, 0] slices_S2000x4_o0_0_S2000x1 slices_S2000x128_o0_0_S2000x32)
    (ratio u1 ex dn xl ![0, 1] ![0, 32] slices_S2000x4_o0_1_S2000x1 slices_S2000x128_o0_32_S2000x32)
    (ratio u2 ex dn xl ![0, 2] ![0, 64] slices_S2000x4_o0_2_S2000x1 slices_S2000x128_o0_64_S2000x32)
    (ratio u3 ex dn xl ![0, 3] ![0, 96] slices_S2000x4_o0_3_S2000x1 slices_S2000x128_o0_96_S2000x32)

/-- The relations' self loops. -/
def loops0 (s : FA S2000x16) (r : FA S1x16) : FA S2000x4 :=
  loops s r ![0, 0] ![0, 4] ![0, 0] slices_S2000x16_o0_0_S2000x4 slices_S2000x16_o0_4_S2000x4 slices_S1x16_o0_0_S1x4
/-- The second relation's self loops. -/
def loops1 (s : FA S2000x16) (r : FA S1x16) : FA S2000x4 :=
  loops s r ![0, 8] ![0, 12] ![0, 4] slices_S2000x16_o0_8_S2000x4 slices_S2000x16_o0_12_S2000x4 slices_S1x16_o0_4_S1x4

/-- The block the body stores. -/
def total (x0 : FA S2000x16) (x1 : FA S1x16) (x2 x3 : FA S2000x4) (x4 x5 : FA S2000x128) (x6 x7 x8 x9 x10 x11 x12 x13 : FA S2000x32)
    (x14 : FA S1x128) : FA S2000x128 :=
  addf (addf (addf (rel (loops0 x0 x1) (addf x2 (loops0 x0 x1)) x4 x6 x7 x8 x9) (rel (loops1 x0 x1) (addf x3 (loops1 x0 x1)) x5 x10 x11 x12 x13))
    (broadcast S2000x128 (Scalar.ofBits .f32 0x00000000#32))) (broadcastTo S2000x128 x14 broadcasts_S1x128_S2000x128)

/-- A cast to the same shape: the halves. -/
theorem pay3_eq (s : FA S2000x16) : k1_pay3 (F := Ideal) s = s := shapeCast_self _ _
/-- A cast to the same shape: the bounds. -/
theorem pay4_eq (r : FA S1x16) : k1_pay4 (F := Ideal) r = r := shapeCast_self _ _

/-- The first relation's self loops. -/
theorem pay5_eq (s : FA S2000x16) (r : FA S1x16) : k1_pay5 (F := Ideal) s r = loops0 s r := by
  refine Eq.trans (b := loops0 (k1_pay3 (F := Ideal) s) (k1_pay4 (F := Ideal) r)) rfl ?_
  rw [pay3_eq, pay4_eq]

/-- The second relation's self loops. -/
theorem pay12_eq (s : FA S2000x16) (r : FA S1x16) : k1_pay12 (F := Ideal) s r = loops1 s r := rfl
/-- A cast to the same shape: the first relation's features. -/
theorem pay7_eq (x : FA S2000x128) : k1_pay7 (F := Ideal) x = x := shapeCast_self _ _
/-- A cast to the same shape: the second relation's features. -/
theorem pay14_eq (x : FA S2000x128) : k1_pay14 (F := Ideal) x = x := shapeCast_self _ _
/-- A cast to the same shape: a head's numerators. -/
theorem pay15_eq (u : FA S2000x32) : k1_pay15 (F := Ideal) u = u := shapeCast_self _ _

/-- A block cast to its own shape. -/
def same (u : FA S2000x32) : FA S2000x32 := shapeCast S2000x32 u shapeCasts_S2000x32_S2000x32
/-- A cast to the same shape changes nothing. -/
theorem same_eq (u : FA S2000x32) : same u = u := shapeCast_self _ _
/-- A cast of four columns to their own shape. -/
def same4 (u : FA S2000x4) : FA S2000x4 := shapeCast S2000x4 u shapeCasts_S2000x4_S2000x4
/-- A cast to the same shape changes nothing. -/
theorem same4_eq (u : FA S2000x4) : same4 u = u := shapeCast_self _ _
/-- A cast of a block to its own shape. -/
def same128 (u : FA S2000x128) : FA S2000x128 := shapeCast S2000x128 u shapeCasts_S2000x128_S2000x128
/-- A cast to the same shape changes nothing. -/
theorem same128_eq (u : FA S2000x128) : same128 u = u := shapeCast_self _ _
/-- A cast of the row of biases to its own shape. -/
def same1 (u : FA S1x128) : FA S1x128 := shapeCast S1x128 u shapeCasts_S1x128_S1x128
/-- A cast to the same shape changes nothing. -/
theorem same1_eq (u : FA S1x128) : same1 u = u := shapeCast_self _ _

/-- The first relation's denominators: the edges' and the self loops'. -/
theorem pay6_eq (s : FA S2000x16) (r : FA S1x16) (d : FA S2000x4) : k1_pay6 (F := Ideal) s r d = addf d (loops0 s r) := by
  refine Eq.trans (b := addf (same4 d) (k1_pay5 (F := Ideal) s r)) rfl ?_
  rw [same4_eq, pay5_eq]

/-- The second relation's denominators: the edges' and the self loops'. -/
theorem pay13_eq (s : FA S2000x16) (r : FA S1x16) (d : FA S2000x4) : k1_pay13 (F := Ideal) s r d = addf d (loops1 s r) := by
  refine Eq.trans (b := addf (same4 d) (k1_pay12 (F := Ideal) s r)) rfl ?_
  rw [same4_eq, pay12_eq]

/-- The first head's quotient. -/
theorem pay8_eq (s : FA S2000x16) (r : FA S1x16) (d : FA S2000x4) (xl : FA S2000x128) (u : FA S2000x32) :
    k1_pay8 (F := Ideal) s r d xl u = ratio u (loops0 s r) (addf d (loops0 s r)) xl ![0, 0] ![0, 0] slices_S2000x4_o0_0_S2000x1 slices_S2000x128_o0_0_S2000x32 := by
  refine Eq.trans (b := ratio (same u) (k1_pay5 (F := Ideal) s r) (k1_pay6 (F := Ideal) s r d) (k1_pay7 (F := Ideal) xl) ![0, 0] ![0, 0]
    slices_S2000x4_o0_0_S2000x1 slices_S2000x128_o0_0_S2000x32) rfl ?_
  rw [same_eq, pay5_eq, pay6_eq, pay7_eq]

/-- The second head's quotient, from its two halves computed apart. -/
theorem pay9_eq (s : FA S2000x16) (r : FA S1x16) (d : FA S2000x4) (xl : FA S2000x128) (u : FA S2000x32) :
    divf (k1_pay9 (F := Ideal) s r xl u) (broadcastTo S2000x32 (k1_pay10 (F := Ideal) s r d) broadcasts_S2000x1_S2000x32)
      = ratio u (loops0 s r) (addf d (loops0 s r)) xl ![0, 1] ![0, 32] slices_S2000x4_o0_1_S2000x1 slices_S2000x128_o0_32_S2000x32 := by
  refine Eq.trans (b := ratio (same u) (k1_pay5 (F := Ideal) s r) (k1_pay6 (F := Ideal) s r d) (k1_pay7 (F := Ideal) xl) ![0, 1] ![0, 32]
    slices_S2000x4_o0_1_S2000x1 slices_S2000x128_o0_32_S2000x32) rfl ?_
  rw [same_eq, pay5_eq, pay6_eq, pay7_eq]

/-- The first relation's four quotients side by side. -/
theorem pay11_eq (ex dn : FA S2000x4) (xl : FA S2000x128) (p q : FA S2000x32) (z : FA S2000x1) (u2 u3 : FA S2000x32) :
    k1_pay11 (F := Ideal) ex dn xl p q z u2 u3 = joined p (divf q (broadcastTo S2000x32 z broadcasts_S2000x1_S2000x32))
      (ratio u2 ex dn xl ![0, 2] ![0, 64] slices_S2000x4_o0_2_S2000x1 slices_S2000x128_o0_64_S2000x32)
      (ratio u3 ex dn xl ![0, 3] ![0, 96] slices_S2000x4_o0_3_S2000x1 slices_S2000x128_o0_96_S2000x32) := by
  refine Eq.trans (b := joined p (divf q (broadcastTo S2000x32 z broadcasts_S2000x1_S2000x32))
      (ratio (same u2) ex dn xl ![0, 2] ![0, 64] slices_S2000x4_o0_2_S2000x1 slices_S2000x128_o0_64_S2000x32)
      (ratio (same u3) ex dn xl ![0, 3] ![0, 96] slices_S2000x4_o0_3_S2000x1 slices_S2000x128_o0_96_S2000x32)) rfl ?_
  rw [same_eq, same_eq]

/-- The first relation's quotients plus the second's. -/
theorem pay16_eq (t : FA S2000x128) (ex dn : FA S2000x4) (xl : FA S2000x128) (u0 u1 u2 u3 : FA S2000x32) :
    k1_pay16 (F := Ideal) t ex dn xl u0 u1 u2 u3 = addf t (rel ex dn xl u0 u1 u2 u3) := by
  refine Eq.trans (b := addf t (rel ex dn xl u0 (same u1) (same u2) (same u3))) rfl ?_
  rw [same_eq, same_eq, same_eq]

/-- A block plus the row of biases. -/
theorem pay2_eq (t : FA S2000x128) (b : FA S1x128) : k1_pay2 (F := Ideal) t b = addf t (broadcastTo S2000x128 b broadcasts_S1x128_S2000x128) := by
  refine Eq.trans (b := addf (same128 t) (broadcastTo S2000x128 (same1 b) broadcasts_S1x128_S2000x128)) rfl ?_
  rw [same128_eq, same1_eq]

/-- The stored block, from the steps that compute it. -/
theorem total_eq (x0 : FA S2000x16) (x1 : FA S1x16) (x2 x3 : FA S2000x4) (x4 x5 : FA S2000x128) (x6 x7 x8 x9 x10 x11 x12 x13 : FA S2000x32)
    (x14 : FA S1x128) :
    k1_pay2 (F := Ideal) (k1_pay1 (F := Ideal) (k1_pay16 (F := Ideal) (k1_pay11 (F := Ideal) (k1_pay5 (F := Ideal) x0 x1) (k1_pay6 (F := Ideal) x0 x1 x2) (k1_pay7 (F := Ideal) x4) (k1_pay8 (F := Ideal) x0 x1 x2 x4 x6) (k1_pay9 (F := Ideal) x0 x1 x4 x7)
      (k1_pay10 (F := Ideal) x0 x1 x2) x8 x9) (k1_pay12 (F := Ideal) (k1_pay3 (F := Ideal) x0) (k1_pay4 (F := Ideal) x1)) (k1_pay13 (F := Ideal) (k1_pay3 (F := Ideal) x0) (k1_pay4 (F := Ideal) x1) x3) (k1_pay14 (F := Ideal) x5) (k1_pay15 (F := Ideal) x10) x11 x12 x13)
      (k1_pay17 (F := Ideal))) x14 = total x0 x1 x2 x3 x4 x5 x6 x7 x8 x9 x10 x11 x12 x13 x14 := by
  rw [pay2_eq, pay16_eq, pay11_eq, pay8_eq, pay9_eq, pay12_eq, pay13_eq, pay14_eq, pay15_eq, pay3_eq, pay4_eq, pay5_eq, pay6_eq, pay7_eq]
  rfl

/-! At an element. -/

/-- Four columns of the block of halves, at an element. -/
theorem slice4 (s : FA S2000x16) (o : Fin 2 → Nat) (h : S2000x16.Slices o S2000x4) (g : Fin 4) (h0 : o 0 = 0) (h1 : o 1 = 4 * g.val)
    (j : Fin 2000) (k : Fin 4) : extractStridedSlice S2000x4 o s h (ix2 j k) = s (ix2 j (slot g k)) := by
  refine extractStridedSlice_apply _ _ _ _ (ix2 j (slot g k)) (fun a => ?_)
  match a with
  | ⟨0, _⟩ => show j.val = o 0 + j.val; omega
  | ⟨1, _⟩ => show 4 * g.val + k.val = o 1 + k.val; omega

/-- A self loop's weight. -/
theorem loops_at (s : FA S2000x16) (r : FA S1x16) (o o' ok : Fin 2 → Nat) (h : S2000x16.Slices o S2000x4) (h' : S2000x16.Slices o' S2000x4)
    (hk : S1x16.Slices ok S1x4) (g g' : Fin 4) (h0 : o 0 = 0) (h1 : o 1 = 4 * g.val) (h0' : o' 0 = 0) (h1' : o' 1 = 4 * g'.val)
    (j : Fin 2000) (k : Fin 4) (q : Fin 16) (hk0 : ok 0 = 0) (hk1 : ok 1 + k.val = q.val) (A B K : EReal)
    (hA : @Eq EReal (s (ix2 j (slot g k))) (A : EReal)) (hB : @Eq EReal (s (ix2 j (slot g' k))) (B : EReal)) (hK : @Eq EReal (r (ix2 (0 : Fin 1) q)) (K : EReal)) :
    @Eq EReal (loops s r o o' ok h h' hk (ix2 j k)) (Ideal.exp (leak (A + B) - K) : EReal) := by
  have e0 : @Eq EReal (FloatOps.ofBits (F := Ideal) .f32 0x00000000#32) 0 := Ideal.ofBits_zero_f32
  have e1 : @Eq EReal (FloatOps.ofBits (F := Ideal) .f32 0x3E4CCCCD#32) ((sl : ℝ) : EReal) := ofBits_sl
  have ek : @Eq EReal (broadcastTo S2000x4 (extractStridedSlice S1x4 ok r hk) broadcasts_S1x4_S2000x4 (ix2 j k)) (K : EReal) := by
    refine Eq.trans ?_ hK
    refine (broadcastTo_apply _ _ _ (ix2 (0 : Fin 1) k) (fun a => by match a with | ⟨0, _⟩ => rfl | ⟨1, _⟩ => rfl)).trans ?_
    refine extractStridedSlice_apply _ _ _ _ (ix2 (0 : Fin 1) q) (fun a => ?_)
    match a with
    | ⟨0, _⟩ => show 0 = ok 0 + 0; omega
    | ⟨1, _⟩ => exact hk1.symm
  have el : @Eq EReal ((extractStridedSlice S2000x4 o s h (ix2 j k) : EReal) + (extractStridedSlice S2000x4 o' s h' (ix2 j k) : EReal)) ((A + B : EReal)) := by
    exact congrArg₂ (fun p q : EReal => p + q) ((slice4 s o h g h0 h1 j k).trans hA) ((slice4 s o' h' g' h0' h1' j k).trans hB)
  show Ideal.exp ((Scalar.select (Ideal.cmp .ogt ((extractStridedSlice S2000x4 o s h (ix2 j k) : EReal) + (extractStridedSlice S2000x4 o' s h' (ix2 j k) : EReal))
      (FloatOps.ofBits (F := Ideal) .f32 0x00000000#32)) ((extractStridedSlice S2000x4 o s h (ix2 j k) : EReal) + (extractStridedSlice S2000x4 o' s h' (ix2 j k) : EReal))
      ((FloatOps.ofBits (F := Ideal) .f32 0x3E4CCCCD#32 : EReal) * ((extractStridedSlice S2000x4 o s h (ix2 j k) : EReal) + (extractStridedSlice S2000x4 o' s h' (ix2 j k) : EReal))) : EReal)
      - (broadcastTo S2000x4 (extractStridedSlice S1x4 ok r hk) broadcasts_S1x4_S2000x4 (ix2 j k) : EReal)) = _
  rw [el, ek, e0, e1, leak_gt]

/-- One head's quotient at an element. -/
theorem ratio_at (u : FA S2000x32) (ex dn : FA S2000x4) (xl : FA S2000x128) (o ox : Fin 2 → Nat) (hs : S2000x4.Slices o S2000x1)
    (hx : S2000x128.Slices ox S2000x32) (h : Fin 4) (h0 : o 0 = 0) (h1 : o 1 = h.val) (hx0 : ox 0 = 0) (hx1 : ox 1 = 32 * h.val)
    (j : Fin 2000) (c : Fin 32) (U E D X : EReal) (hU : @Eq EReal (u (ix2 j c)) (U : EReal)) (hE : @Eq EReal (ex (ix2 j h)) (E : EReal))
    (hD : @Eq EReal (dn (ix2 j h)) (D : EReal)) (hX : @Eq EReal (xl (ix2 j (col h c))) (X : EReal)) :
    @Eq EReal (ratio u ex dn xl o ox hs hx (ix2 j c)) (Ideal.div (U + E * X) (D + ((ep : ℝ) : EReal))) := by
  have cut : ∀ (v : FA S2000x4), extractStridedSlice S2000x1 o v hs (ix2 j (0 : Fin 1)) = v (ix2 j h) := fun v => by
    refine extractStridedSlice_apply _ _ _ _ (ix2 j h) (fun a => ?_)
    match a with
    | ⟨0, _⟩ => show j.val = o 0 + j.val; omega
    | ⟨1, _⟩ => show h.val = o 1 + 0; omega
  have ex' : @Eq EReal (broadcastTo S2000x32 (extractStridedSlice S2000x1 o ex hs) broadcasts_S2000x1_S2000x32 (ix2 j c)) (E : EReal) := by
    refine (broadcastTo_apply _ _ _ (ix2 j (0 : Fin 1)) (fun a => by match a with | ⟨0, _⟩ => rfl | ⟨1, _⟩ => rfl)).trans ?_
    exact (cut ex).trans hE
  have xl' : @Eq EReal (extractStridedSlice S2000x32 ox xl hx (ix2 j c)) (X : EReal) := by
    refine (extractStridedSlice_apply _ _ _ _ (ix2 j (col h c)) (fun a => ?_)).trans hX
    match a with
    | ⟨0, _⟩ => show j.val = ox 0 + j.val; omega
    | ⟨1, _⟩ => show 32 * h.val + c.val = ox 1 + c.val; omega
  have dn' : @Eq EReal (broadcastTo S2000x32 (addf (extractStridedSlice S2000x1 o dn hs) (broadcast S2000x1 (Scalar.ofBits .f32 0x24E69595#32)))
      broadcasts_S2000x1_S2000x32 (ix2 j c)) (D + ((ep : ℝ) : EReal)) := by
    refine (broadcastTo_apply _ _ _ (ix2 j (0 : Fin 1)) (fun a => by match a with | ⟨0, _⟩ => rfl | ⟨1, _⟩ => rfl)).trans ?_
    exact congrArg₂ (fun p q : EReal => p + q) ((cut dn).trans hD) ofBits_ep
  show Ideal.div ((u (ix2 j c) : EReal) + (broadcastTo S2000x32 (extractStridedSlice S2000x1 o ex hs) broadcasts_S2000x1_S2000x32 (ix2 j c) : EReal)
    * (extractStridedSlice S2000x32 ox xl hx (ix2 j c) : EReal)) (broadcastTo S2000x32 (addf (extractStridedSlice S2000x1 o dn hs)
      (broadcast S2000x1 (Scalar.ofBits .f32 0x24E69595#32))) broadcasts_S2000x1_S2000x32 (ix2 j c)) = _
  rw [ex', xl', dn', hU]

/-- The heads side by side, by head. -/
def joinOf (f : Fin 4 → FA S2000x32) : FA S2000x128 := joined (f 0) (f 1) (f 2) (f 3)

/-- The heads side by side, at a head and a channel. -/
theorem joinOf_at (f : Fin 4 → FA S2000x32) (j : Fin 2000) (h : Fin 4) (c : Fin 32) : joinOf f (ix2 j (col h c)) = f h (ix2 j c) := by
  unfold joinOf joined
  have hh : ∀ b : Fin 2, b.cast (rfl : S2000x32.rank = S2000x128.rank) ≠ 1 → (ix2 j c b).val = (ix2 j (col h c) (b.cast (rfl : S2000x32.rank = S2000x128.rank))).val := by
    intro b hb
    match b with
    | ⟨0, _⟩ => rfl
    | ⟨1, _⟩ => exact absurd rfl hb
  match h, hh with
  | ⟨0, _⟩, hh => exact concatenate_apply_piece (t := S2000x128) 1 [⟨S2000x32, f 0⟩, ⟨S2000x32, f 1⟩, ⟨S2000x32, f 2⟩, ⟨S2000x32, f 3⟩] _ _ 0 (show 0 < 4 by decide) S2000x32 (f 0) rfl rfl 0 rfl (ix2 j c) hh rfl
  | ⟨1, _⟩, hh => exact concatenate_apply_piece (t := S2000x128) 1 [⟨S2000x32, f 0⟩, ⟨S2000x32, f 1⟩, ⟨S2000x32, f 2⟩, ⟨S2000x32, f 3⟩] _ _ 1 (show 1 < 4 by decide) S2000x32 (f 1) rfl rfl 32 rfl (ix2 j c) hh rfl
  | ⟨2, _⟩, hh => exact concatenate_apply_piece (t := S2000x128) 1 [⟨S2000x32, f 0⟩, ⟨S2000x32, f 1⟩, ⟨S2000x32, f 2⟩, ⟨S2000x32, f 3⟩] _ _ 2 (show 2 < 4 by decide) S2000x32 (f 2) rfl rfl 64 rfl (ix2 j c) hh rfl
  | ⟨3, _⟩, hh => exact concatenate_apply_piece (t := S2000x128) 1 [⟨S2000x32, f 0⟩, ⟨S2000x32, f 1⟩, ⟨S2000x32, f 2⟩, ⟨S2000x32, f 3⟩] _ _ 3 (show 3 < 4 by decide) S2000x32 (f 3) rfl rfl 96 rfl (ix2 j c) hh rfl

/-- Four blocks side by side, as a family over the heads. -/
theorem joined_eq (p q r s : FA S2000x32) : joined p q r s = joinOf ![p, q, r, s] := rfl
/-- The first of four. -/
theorem at_0 (p q r s : FA S2000x32) (i : S2000x32.Idx) : ![p, q, r, s] 0 i = p i := rfl
/-- The second of four. -/
theorem at_1 (p q r s : FA S2000x32) (i : S2000x32.Idx) : ![p, q, r, s] 1 i = q i := rfl
/-- The third of four. -/
theorem at_2 (p q r s : FA S2000x32) (i : S2000x32.Idx) : ![p, q, r, s] 2 i = r i := rfl
/-- The last of four. -/
theorem at_3 (p q r s : FA S2000x32) (i : S2000x32.Idx) : ![p, q, r, s] 3 i = s i := rfl

/-- One relation's quotient at an element. -/
theorem rel_at (ex dn : FA S2000x4) (xl : FA S2000x128) (u0 u1 u2 u3 : FA S2000x32) (j : Fin 2000) (h : Fin 4) (c : Fin 32) (U E D X : EReal)
    (hU : @Eq EReal (![u0, u1, u2, u3] h (ix2 j c)) (U : EReal)) (hE : @Eq EReal (ex (ix2 j h)) (E : EReal))
    (hD : @Eq EReal (dn (ix2 j h)) (D : EReal)) (hX : @Eq EReal (xl (ix2 j (col h c))) (X : EReal)) :
    @Eq EReal (rel ex dn xl u0 u1 u2 u3 (ix2 j (col h c))) (Ideal.div (U + E * X) (D + ((ep : ℝ) : EReal))) := by
  unfold rel
  rw [joined_eq, joinOf_at]
  match h, hU, hE, hD, hX with
  | ⟨0, _⟩, hU, hE, hD, hX => exact (at_0 _ _ _ _ _).trans (ratio_at u0 ex dn xl _ _ _ _ 0 rfl rfl rfl rfl j c U E D X hU hE hD hX)
  | ⟨1, _⟩, hU, hE, hD, hX => exact (at_1 _ _ _ _ _).trans (ratio_at u1 ex dn xl _ _ _ _ 1 rfl rfl rfl rfl j c U E D X hU hE hD hX)
  | ⟨2, _⟩, hU, hE, hD, hX => exact (at_2 _ _ _ _ _).trans (ratio_at u2 ex dn xl _ _ _ _ 2 rfl rfl rfl rfl j c U E D X hU hE hD hX)
  | ⟨3, _⟩, hU, hE, hD, hX => exact (at_3 _ _ _ _ _).trans (ratio_at u3 ex dn xl _ _ _ _ 3 rfl rfl rfl rfl j c U E D X hU hE hD hX)

/-- The stored block at an element: the two relations' quotients, zero and the bias. -/
theorem total_at (x0 : FA S2000x16) (x1 : FA S1x16) (x2 x3 : FA S2000x4) (x4 x5 : FA S2000x128) (x6 x7 x8 x9 x10 x11 x12 x13 : FA S2000x32)
    (x14 : FA S1x128) (j : Fin 2000) (q : Fin 128) (R R' : EReal) (b : EReal)
    (hR : @Eq EReal (rel (loops0 x0 x1) (addf x2 (loops0 x0 x1)) x4 x6 x7 x8 x9 (ix2 j q)) (R : EReal))
    (hR' : @Eq EReal (rel (loops1 x0 x1) (addf x3 (loops1 x0 x1)) x5 x10 x11 x12 x13 (ix2 j q)) (R' : EReal))
    (hb : @Eq EReal (x14 (ix2 (0 : Fin 1) q)) b) :
    @Eq EReal (total x0 x1 x2 x3 x4 x5 x6 x7 x8 x9 x10 x11 x12 x13 x14 (ix2 j q)) (((R : EReal) : EReal) + ((R' : EReal) : EReal) + b) := by
  have e0 : @Eq EReal (FloatOps.ofBits (F := Ideal) .f32 0x00000000#32) 0 := Ideal.ofBits_zero_f32
  have eb : @Eq EReal (broadcastTo S2000x128 x14 broadcasts_S1x128_S2000x128 (ix2 j q)) b := by
    refine Eq.trans ?_ hb
    exact broadcastTo_apply _ _ _ (ix2 (0 : Fin 1) q) (fun a => by match a with | ⟨0, _⟩ => rfl | ⟨1, _⟩ => rfl)
  show ((rel (loops0 x0 x1) (addf x2 (loops0 x0 x1)) x4 x6 x7 x8 x9 (ix2 j q) : EReal) + (rel (loops1 x0 x1) (addf x3 (loops1 x0 x1)) x5 x10 x11 x12 x13 (ix2 j q) : EReal)
    + (FloatOps.ofBits (F := Ideal) .f32 0x00000000#32 : EReal)) + (broadcastTo S2000x128 x14 broadcasts_S1x128_S2000x128 (ix2 j q) : EReal) = _
  rw [hR, hR', e0, eb, add_zero]

end Cert.Proof.KPay1

end
-- ==== Proof.KRegion1.lean ====
/- What the second region leaves: at a node, the block's value at the node's place. -/
module

public import proofs.«01_k».proof.Proof.KPay1

@[expose] public section

noncomputable section

namespace Cert.Proof.KRegion1

open Idealize.ShloMosaic Idealize.ShloMosaic.TcCoe Idealize.ShloMosaic.ValueIdx
open Idealize.ShloMosaic.Pipeline (Dat)
open Cert.KernelIdeal Cert.KernelIdeal.Gen
open Cert.Proof.Spec Cert.Proof.KPay Cert.Proof.KPay1 Cert.Proof.KRegion0

variable (V : (c : Dev nD) → (b : Ref sig .tc) → Buf (Elt Ideal) ((c : Thread nD τ).loc b)) (c : Dev nD)

/-- The block the body leaves at a point, of the blocks it reads there. -/
def blockAt (t : Fin cfg1.N) : FA S2000x128 :=
  total (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)

/-- A grid point leaves its block of the result. -/
theorem outsAt1_eq (t : Fin cfg1.N) : outsAt1 V c t = blockAt V c t := by
  unfold outsAt1 out1_A_15
  rw [View.read_writes_junk_eq_canon]
  unfold kernelRun1_A
  dsimp only
  sl_unfold_words
  rw [View.canon_cons_unit_zero (S := S2000x128) hz, View.readCov_unit_zero (S := S2000x128) _ hz]
  simp only [View.readAt_eq_ld, Memref.IsWhole.read_unread, View.ld_unit_zero (S := S2000x128) hz, View.ld_unit_zero (S := S2000x16) hz,
    View.ld_unit_zero (S := S1x16) hz, View.ld_unit_zero (S := S2000x4) hz, View.ld_unit_zero (S := S2000x32) hz, View.ld_unit_zero (S := S1x128) hz]
  exact total_eq (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)

/-! The blocks read. -/

/-- The windows' block indices: the row windows' is the point, the others' is zero. -/
theorem idx1_0 : ∀ t : Fin cfg1.N, win1_0.index t 0 = t.val ∧ win1_0.index t 1 = 0 := by decide +kernel
/-- Window 2 moves with the grid point, by rows. -/
theorem idx1_2 : ∀ t : Fin cfg1.N, win1_2.index t 0 = t.val ∧ win1_2.index t 1 = 0 := by decide +kernel
/-- Window 3 moves with the grid point, by rows. -/
theorem idx1_3 : ∀ t : Fin cfg1.N, win1_3.index t 0 = t.val ∧ win1_3.index t 1 = 0 := by decide +kernel
/-- Window 4 moves with the grid point, by rows. -/
theorem idx1_4 : ∀ t : Fin cfg1.N, win1_4.index t 0 = t.val ∧ win1_4.index t 1 = 0 := by decide +kernel
/-- Window 5 moves with the grid point, by rows. -/
theorem idx1_5 : ∀ t : Fin cfg1.N, win1_5.index t 0 = t.val ∧ win1_5.index t 1 = 0 := by decide +kernel
/-- Window 6 moves with the grid point, by rows. -/
theorem idx1_6 : ∀ t : Fin cfg1.N, win1_6.index t 0 = t.val ∧ win1_6.index t 1 = 0 := by decide +kernel
/-- Window 7 moves with the grid point, by rows. -/
theorem idx1_7 : ∀ t : Fin cfg1.N, win1_7.index t 0 = t.val ∧ win1_7.index t 1 = 0 := by decide +kernel
/-- Window 8 moves with the grid point, by rows. -/
theorem idx1_8 : ∀ t : Fin cfg1.N, win1_8.index t 0 = t.val ∧ win1_8.index t 1 = 0 := by decide +kernel
/-- Window 9 moves with the grid point, by rows. -/
theorem idx1_9 : ∀ t : Fin cfg1.N, win1_9.index t 0 = t.val ∧ win1_9.index t 1 = 0 := by decide +kernel
/-- Window 10 moves with the grid point, by rows. -/
theorem idx1_10 : ∀ t : Fin cfg1.N, win1_10.index t 0 = t.val ∧ win1_10.index t 1 = 0 := by decide +kernel
/-- Window 11 moves with the grid point, by rows. -/
theorem idx1_11 : ∀ t : Fin cfg1.N, win1_11.index t 0 = t.val ∧ win1_11.index t 1 = 0 := by decide +kernel
/-- Window 12 moves with the grid point, by rows. -/
theorem idx1_12 : ∀ t : Fin cfg1.N, win1_12.index t 0 = t.val ∧ win1_12.index t 1 = 0 := by decide +kernel
/-- Window 13 moves with the grid point, by rows. -/
theorem idx1_13 : ∀ t : Fin cfg1.N, win1_13.index t 0 = t.val ∧ win1_13.index t 1 = 0 := by decide +kernel
/-- Window 15 moves with the grid point, by rows. -/
theorem idx1_15 : ∀ t : Fin cfg1.N, win1_15.index t 0 = t.val ∧ win1_15.index t 1 = 0 := by decide +kernel

/-- A block of the halves of the logits, at an element. -/
theorem blk0_at (t : Fin cfg1.N) (j : Fin 2000) (k : Fin 16) :
    iblk1 V c 0 t (ix2 j k) = V c main_v113_2 (ix2 (nodeIx t j) k) := by
  show V c main_v113_2 ((win1_0.rect t).emb (ix2 j k)) = _
  refine congrArg (V c main_v113_2) (funext fun a => Fin.ext ?_)
  have h := idx1_0 t
  match a with
  | ⟨0, _⟩ =>
    refine (win1_0.rect_emb_val t (ix2 j k) 0).trans ?_
    rw [h.1]; show t.val * 2000 + j.val = 2000 * t.val + j.val; omega
  | ⟨1, _⟩ =>
    refine (win1_0.rect_emb_val t (ix2 j k) 1).trans ?_
    rw [h.2]; show 0 * 16 + k.val = k.val; omega

/-- A block of the first relation's denominators, at an element. -/
theorem blk2_at (t : Fin cfg1.N) (j : Fin 2000) (k : Fin 4) :
    iblk1 V c 2 t (ix2 j k) = V c main_v157 (ix2 (nodeIx t j) k) := by
  show V c main_v157 ((win1_2.rect t).emb (ix2 j k)) = _
  refine congrArg (V c main_v157) (funext fun a => Fin.ext ?_)
  have h := idx1_2 t
  match a with
  | ⟨0, _⟩ =>
    refine (win1_2.rect_emb_val t (ix2 j k) 0).trans ?_
    rw [h.1]; show t.val * 2000 + j.val = 2000 * t.val + j.val; omega
  | ⟨1, _⟩ =>
    refine (win1_2.rect_emb_val t (ix2 j k) 1).trans ?_
    rw [h.2]; show 0 * 4 + k.val = k.val; omega

/-- A block of the second relation's denominators, at an element. -/
theorem blk3_at (t : Fin cfg1.N) (j : Fin 2000) (k : Fin 4) :
    iblk1 V c 3 t (ix2 j k) = V c main_v210 (ix2 (nodeIx t j) k) := by
  show V c main_v210 ((win1_3.rect t).emb (ix2 j k)) = _
  refine congrArg (V c main_v210) (funext fun a => Fin.ext ?_)
  have h := idx1_3 t
  match a with
  | ⟨0, _⟩ =>
    refine (win1_3.rect_emb_val t (ix2 j k) 0).trans ?_
    rw [h.1]; show t.val * 2000 + j.val = 2000 * t.val + j.val; omega
  | ⟨1, _⟩ =>
    refine (win1_3.rect_emb_val t (ix2 j k) 1).trans ?_
    rw [h.2]; show 0 * 4 + k.val = k.val; omega

/-- A block of the first relation's features, at an element. -/
theorem blk4_at (t : Fin cfg1.N) (j : Fin 2000) (k : Fin 128) :
    iblk1 V c 4 t (ix2 j k) = V c main_v113_0 (ix2 (nodeIx t j) k) := by
  show V c main_v113_0 ((win1_4.rect t).emb (ix2 j k)) = _
  refine congrArg (V c main_v113_0) (funext fun a => Fin.ext ?_)
  have h := idx1_4 t
  match a with
  | ⟨0, _⟩ =>
    refine (win1_4.rect_emb_val t (ix2 j k) 0).trans ?_
    rw [h.1]; show t.val * 2000 + j.val = 2000 * t.val + j.val; omega
  | ⟨1, _⟩ =>
    refine (win1_4.rect_emb_val t (ix2 j k) 1).trans ?_
    rw [h.2]; show 0 * 128 + k.val = k.val; omega

/-- A block of the second relation's features, at an element. -/
theorem blk5_at (t : Fin cfg1.N) (j : Fin 2000) (k : Fin 128) :
    iblk1 V c 5 t (ix2 j k) = V c main_v113_1 (ix2 (nodeIx t j) k) := by
  show V c main_v113_1 ((win1_5.rect t).emb (ix2 j k)) = _
  refine congrArg (V c main_v113_1) (funext fun a => Fin.ext ?_)
  have h := idx1_5 t
  match a with
  | ⟨0, _⟩ =>
    refine (win1_5.rect_emb_val t (ix2 j k) 0).trans ?_
    rw [h.1]; show t.val * 2000 + j.val = 2000 * t.val + j.val; omega
  | ⟨1, _⟩ =>
    refine (win1_5.rect_emb_val t (ix2 j k) 1).trans ?_
    rw [h.2]; show 0 * 128 + k.val = k.val; omega

/-- A block of the first relation's numerators at head 0, at an element. -/
theorem blk6_at (t : Fin cfg1.N) (j : Fin 2000) (k : Fin 32) :
    iblk1 V c 6 t (ix2 j k) = V c main_v173 (ix2 (nodeIx t j) k) := by
  show V c main_v173 ((win1_6.rect t).emb (ix2 j k)) = _
  refine congrArg (V c main_v173) (funext fun a => Fin.ext ?_)
  have h := idx1_6 t
  match a with
  | ⟨0, _⟩ =>
    refine (win1_6.rect_emb_val t (ix2 j k) 0).trans ?_
    rw [h.1]; show t.val * 2000 + j.val = 2000 * t.val + j.val; omega
  | ⟨1, _⟩ =>
    refine (win1_6.rect_emb_val t (ix2 j k) 1).trans ?_
    rw [h.2]; show 0 * 32 + k.val = k.val; omega

/-- A block of the first relation's numerators at head 1, at an element. -/
theorem blk7_at (t : Fin cfg1.N) (j : Fin 2000) (k : Fin 32) :
    iblk1 V c 7 t (ix2 j k) = V c main_v175 (ix2 (nodeIx t j) k) := by
  show V c main_v175 ((win1_7.rect t).emb (ix2 j k)) = _
  refine congrArg (V c main_v175) (funext fun a => Fin.ext ?_)
  have h := idx1_7 t
  match a with
  | ⟨0, _⟩ =>
    refine (win1_7.rect_emb_val t (ix2 j k) 0).trans ?_
    rw [h.1]; show t.val * 2000 + j.val = 2000 * t.val + j.val; omega
  | ⟨1, _⟩ =>
    refine (win1_7.rect_emb_val t (ix2 j k) 1).trans ?_
    rw [h.2]; show 0 * 32 + k.val = k.val; omega

/-- A block of the first relation's numerators at head 2, at an element. -/
theorem blk8_at (t : Fin cfg1.N) (j : Fin 2000) (k : Fin 32) :
    iblk1 V c 8 t (ix2 j k) = V c main_v177 (ix2 (nodeIx t j) k) := by
  show V c main_v177 ((win1_8.rect t).emb (ix2 j k)) = _
  refine congrArg (V c main_v177) (funext fun a => Fin.ext ?_)
  have h := idx1_8 t
  match a with
  | ⟨0, _⟩ =>
    refine (win1_8.rect_emb_val t (ix2 j k) 0).trans ?_
    rw [h.1]; show t.val * 2000 + j.val = 2000 * t.val + j.val; omega
  | ⟨1, _⟩ =>
    refine (win1_8.rect_emb_val t (ix2 j k) 1).trans ?_
    rw [h.2]; show 0 * 32 + k.val = k.val; omega

/-- A block of the first relation's numerators at head 3, at an element. -/
theorem blk9_at (t : Fin cfg1.N) (j : Fin 2000) (k : Fin 32) :
    iblk1 V c 9 t (ix2 j k) = V c main_v179 (ix2 (nodeIx t j) k) := by
  show V c main_v179 ((win1_9.rect t).emb (ix2 j k)) = _
  refine congrArg (V c main_v179) (funext fun a => Fin.ext ?_)
  have h := idx1_9 t
  match a with
  | ⟨0, _⟩ =>
    refine (win1_9.rect_emb_val t (ix2 j k) 0).trans ?_
    rw [h.1]; show t.val * 2000 + j.val = 2000 * t.val + j.val; omega
  | ⟨1, _⟩ =>
    refine (win1_9.rect_emb_val t (ix2 j k) 1).trans ?_
    rw [h.2]; show 0 * 32 + k.val = k.val; omega

/-- A block of the second relation's numerators at head 0, at an element. -/
theorem blk10_at (t : Fin cfg1.N) (j : Fin 2000) (k : Fin 32) :
    iblk1 V c 10 t (ix2 j k) = V c main_v226 (ix2 (nodeIx t j) k) := by
  show V c main_v226 ((win1_10.rect t).emb (ix2 j k)) = _
  refine congrArg (V c main_v226) (funext fun a => Fin.ext ?_)
  have h := idx1_10 t
  match a with
  | ⟨0, _⟩ =>
    refine (win1_10.rect_emb_val t (ix2 j k) 0).trans ?_
    rw [h.1]; show t.val * 2000 + j.val = 2000 * t.val + j.val; omega
  | ⟨1, _⟩ =>
    refine (win1_10.rect_emb_val t (ix2 j k) 1).trans ?_
    rw [h.2]; show 0 * 32 + k.val = k.val; omega

/-- A block of the second relation's numerators at head 1, at an element. -/
theorem blk11_at (t : Fin cfg1.N) (j : Fin 2000) (k : Fin 32) :
    iblk1 V c 11 t (ix2 j k) = V c main_v228 (ix2 (nodeIx t j) k) := by
  show V c main_v228 ((win1_11.rect t).emb (ix2 j k)) = _
  refine congrArg (V c main_v228) (funext fun a => Fin.ext ?_)
  have h := idx1_11 t
  match a with
  | ⟨0, _⟩ =>
    refine (win1_11.rect_emb_val t (ix2 j k) 0).trans ?_
    rw [h.1]; show t.val * 2000 + j.val = 2000 * t.val + j.val; omega
  | ⟨1, _⟩ =>
    refine (win1_11.rect_emb_val t (ix2 j k) 1).trans ?_
    rw [h.2]; show 0 * 32 + k.val = k.val; omega

/-- A block of the second relation's numerators at head 2, at an element. -/
theorem blk12_at (t : Fin cfg1.N) (j : Fin 2000) (k : Fin 32) :
    iblk1 V c 12 t (ix2 j k) = V c main_v230 (ix2 (nodeIx t j) k) := by
  show V c main_v230 ((win1_12.rect t).emb (ix2 j k)) = _
  refine congrArg (V c main_v230) (funext fun a => Fin.ext ?_)
  have h := idx1_12 t
  match a with
  | ⟨0, _⟩ =>
    refine (win1_12.rect_emb_val t (ix2 j k) 0).trans ?_
    rw [h.1]; show t.val * 2000 + j.val = 2000 * t.val + j.val; omega
  | ⟨1, _⟩ =>
    refine (win1_12.rect_emb_val t (ix2 j k) 1).trans ?_
    rw [h.2]; show 0 * 32 + k.val = k.val; omega

/-- A block of the second relation's numerators at head 3, at an element. -/
theorem blk13_at (t : Fin cfg1.N) (j : Fin 2000) (k : Fin 32) :
    iblk1 V c 13 t (ix2 j k) = V c main_v232 (ix2 (nodeIx t j) k) := by
  show V c main_v232 ((win1_13.rect t).emb (ix2 j k)) = _
  refine congrArg (V c main_v232) (funext fun a => Fin.ext ?_)
  have h := idx1_13 t
  match a with
  | ⟨0, _⟩ =>
    refine (win1_13.rect_emb_val t (ix2 j k) 0).trans ?_
    rw [h.1]; show t.val * 2000 + j.val = 2000 * t.val + j.val; omega
  | ⟨1, _⟩ =>
    refine (win1_13.rect_emb_val t (ix2 j k) 1).trans ?_
    rw [h.2]; show 0 * 32 + k.val = k.val; omega

/-- Every grid point reads the whole row of bounds. -/
theorem blk1_at (t : Fin cfg1.N) : iblk1 V c 1 t = V c main_v126 := by
  funext y
  show V c main_v126 ((win1_1.rect t).emb y) = _
  refine congrArg (V c main_v126) (funext fun a => Fin.ext ?_)
  have h : ∀ t : Fin cfg1.N, win1_1.index t 0 = 0 ∧ win1_1.index t 1 = 0 := by decide +kernel
  match a with
  | ⟨0, _⟩ => exact win1_1.rect_emb_val_of_index_zero t 0 (h t).1 y
  | ⟨1, _⟩ => exact win1_1.rect_emb_val_of_index_zero t 1 (h t).2 y

/-- Every grid point reads the whole row of biases. -/
theorem blk14_at (t : Fin cfg1.N) : iblk1 V c 14 t = V c main_v234 := by
  funext y
  show V c main_v234 ((win1_14.rect t).emb y) = _
  refine congrArg (V c main_v234) (funext fun a => Fin.ext ?_)
  have h : ∀ t : Fin cfg1.N, win1_14.index t 0 = 0 ∧ win1_14.index t 1 = 0 := by decide +kernel
  match a with
  | ⟨0, _⟩ => exact win1_14.rect_emb_val_of_index_zero t 0 (h t).1 y
  | ⟨1, _⟩ => exact win1_14.rect_emb_val_of_index_zero t 1 (h t).2 y

/-- The array the region leaves, at a node and a column. -/
theorem arr1_15 (n : Fin 50000) (q : Fin 128) :
    (dat1 V c).arrAt 15 cfg1.N (ix2 n q) = blockAt V c (blockOf n) (ix2 (placeOf n) q) := by
  refine congrFun ((dat1 V c).arrAt_eq_of_cover 15 (fun i => blockAt V c (blockOf (i 0)) (ix2 (placeOf (i 0)) (i 1))) (fun t _ => ?_) (fun i => ?_)) (ix2 n q)
  · funext y
    obtain ⟨j, p, rfl⟩ := exists_ix2 y
    show (dat1 V c).after 15 t (ix2 j p) = blockAt V c (blockOf ((win1_15.rect t).emb (ix2 j p) 0))
      (ix2 (placeOf ((win1_15.rect t).emb (ix2 j p) 0)) ((win1_15.rect t).emb (ix2 j p) 1))
    rw [after1_15, outsAt1_eq]
    have h := idx1_15 t
    have ht : t.val < 25 := t.isLt
    have hj := j.isLt
    have e0 : ((win1_15.rect t).emb (ix2 j p) 0).val = 2000 * t.val + j.val := by
      refine (win1_15.rect_emb_val t (ix2 j p) 0).trans ?_
      rw [h.1]; show t.val * 2000 + j.val = 2000 * t.val + j.val; omega
    have e1 : ((win1_15.rect t).emb (ix2 j p) 1).val = p.val := by
      refine (win1_15.rect_emb_val t (ix2 j p) 1).trans ?_
      rw [h.2]; show 0 * 128 + p.val = p.val; omega
    have b0 : blockOf ((win1_15.rect t).emb (ix2 j p) 0) = t := Fin.ext (by
      show ((win1_15.rect t).emb (ix2 j p) 0).val / 2000 = t.val
      omega)
    have b1 : placeOf ((win1_15.rect t).emb (ix2 j p) 0) = j := Fin.ext (by
      show ((win1_15.rect t).emb (ix2 j p) 0).val % 2000 = j.val
      omega)
    have b2 : (win1_15.rect t).emb (ix2 j p) 1 = p := Fin.ext e1
    rw [b0, b1, b2]
  · obtain ⟨n, p, rfl⟩ := exists_ix2 i
    refine ⟨blockOf n, flush1_15 _, ?_⟩
    show ix2 n p ∈ ((View.whole main_v235).slice (win1_15.rect (blockOf n))).set
    rw [View.set_slice_whole, Rect.mem_set_unit]
    intro a
    have h := idx1_15 (blockOf n)
    have hn := n.isLt
    have hp := p.isLt
    match a with
    | ⟨0, _⟩ =>
      show win1_15.index (blockOf n) 0 * 2000 ≤ n.val ∧ n.val < win1_15.index (blockOf n) 0 * 2000 + 2000
      rw [h.1]; show n.val / 2000 * 2000 ≤ n.val ∧ n.val < n.val / 2000 * 2000 + 2000; omega
    | ⟨1, _⟩ =>
      show win1_15.index (blockOf n) 1 * 128 ≤ p.val ∧ p.val < win1_15.index (blockOf n) 1 * 128 + 128
      rw [h.2]; omega

end Cert.Proof.KRegion1

end
-- ==== Proof.KRead0.lean ====
/- The attention table as the kernel's host operations build it. -/
module

public import proofs.«01_k».proof.Proof.KTable

@[expose] public section

noncomputable section

namespace Cert.Proof.KTable

open Idealize.ShloMosaic Idealize.ShloMosaic.TcCoe Idealize.ShloMosaic.ValueIdx
open Idealize.ShloMosaic.StableHlo (after upto)
open Cert.KernelIdeal Cert.KernelIdeal.Gen
open Cert.Proof.KPay

/-- The attention table the first region reads. -/
theorem read_v112 (U : Valuation τ sig (Elt Ideal)) :
    after hostOps0 U (Proc.devRef .tc main_v112) = table (U (Proc.devRef .tc main_arg4)) (U (Proc.devRef .tc main_arg5))
      (U (Proc.devRef .tc main_arg8)) (U (Proc.devRef .tc main_arg9)) := by
  after_reads_simp [above_fold]
  refine congrArg₂ above ?_ ?_
  · show four (upto hostOps0 U 79 (Proc.devRef .tc main_v34)) (upto hostOps0 U 79 (Proc.devRef .tc main_v59))
      (upto hostOps0 U 79 (Proc.devRef .tc main_v9)) (upto hostOps0 U 79 (Proc.devRef .tc main_v9)) = _
    after_reads_simp [word_fold, pair_fold, put_fold]
    rfl
  · show four (upto hostOps0 U 148 (Proc.devRef .tc main_v9)) (upto hostOps0 U 148 (Proc.devRef .tc main_v9))
      (upto hostOps0 U 148 (Proc.devRef .tc main_v85)) (upto hostOps0 U 148 (Proc.devRef .tc main_v110)) = _
    after_reads_simp [word_fold, pair_fold, put_fold]
    rfl

end Cert.Proof.KTable

end
-- ==== Proof.KValue.lean ====
/- The kernel's result at a node and a column, at inputs named by functions. -/
module

public import proofs.«01_k».proof.Proof.KMidAt
public import proofs.«01_k».proof.Proof.KRegion1
public import proofs.«01_k».proof.Proof.KRead0

@[expose] public section

noncomputable section

namespace Cert.Proof.KValue

open Idealize.ShloMosaic Idealize.ShloMosaic.TcCoe Idealize.ShloMosaic.ValueIdx
open Idealize.ShloMosaic.StableHlo (after)
open Cert.KernelIdeal Cert.KernelIdeal.Gen
open Cert.Proof.Spec Cert.Proof.KPay Cert.Proof.KPay1 Cert.Proof.KRegion0 Cert.Proof.KRegion1 Cert.Proof.KTable Cert.Proof.KScore
open Cert.Proof.KMid Cert.Proof.KMidAt

/-! The arrays the operations between the regions leave alone, and the end nodes' words. -/

section

variable (U : Valuation τ sig (Elt Ideal))

/-- The first relation's features are left alone. -/
theorem keep_v113_0 : mid U (Proc.devRef .tc main_v113_0) = U (Proc.devRef .tc main_v113_0) := by
  unfold mid
  after_reads_simp

/-- The second relation's features are left alone. -/
theorem keep_v113_1 : mid U (Proc.devRef .tc main_v113_1) = U (Proc.devRef .tc main_v113_1) := by
  unfold mid
  after_reads_simp

/-- The halves of the logits are left alone. -/
theorem keep_v113_2 : mid U (Proc.devRef .tc main_v113_2) = U (Proc.devRef .tc main_v113_2) := by
  unfold mid
  after_reads_simp

/-- A row of an array of edges. -/
def edgeRow (x : IVec S2x256000 32) (o : Fin 2 → Nat) (h : S2x256000.Slices o S1x256000) : EI :=
  shapeCast S256000 (extractStridedSlice S1x256000 o x h) shapeCasts_S1x256000_S256000

/-- A row of an array of edges, at an edge. -/
theorem edgeRow_at (x : IVec S2x256000 32) (o : Fin 2 → Nat) (h : S2x256000.Slices o S1x256000) (r : Fin 2) (h0 : o 0 = r.val) (h1 : o 1 = 0)
    (e : Fin 256000) : edgeRow x o h (ix1 e) = x (ix2 r e) := by
  unfold edgeRow
  refine (shapeCast_apply _ _ _ (ix2 (0 : Fin 1) e) ?_).trans ?_
  · rw [Shape.rowMajor_val_two, Shape.rowMajor_val_one]
    show 0 * 256000 + e.val = e.val
    omega
  · refine extractStridedSlice_apply _ _ _ _ (ix2 r e) (fun a => ?_)
    match a with
    | ⟨0, _⟩ => show r.val = o 0 + 0; omega
    | ⟨1, _⟩ => show e.val = o 1 + e.val; omega

/-- The first relation's sources. -/
theorem read_v1 : after hostOps0 U (Proc.devRef .tc main_v1) = edgeRow (U (Proc.devRef .tc main_arg1)) ![0, 0] slices_S2x256000_S1x256000_0_0 := by
  after_reads_simp
  rfl

/-- The first relation's destinations. -/
theorem read_v3 : after hostOps0 U (Proc.devRef .tc main_v3) = edgeRow (U (Proc.devRef .tc main_arg1)) ![1, 0] slices_S2x256000_S1x256000_1_0 := by
  after_reads_simp
  rfl

/-- The second relation's sources. -/
theorem read_v5 : after hostOps0 U (Proc.devRef .tc main_v5) = edgeRow (U (Proc.devRef .tc main_arg2)) ![0, 0] slices_S2x256000_S1x256000_0_0 := by
  after_reads_simp
  rfl

/-- The second relation's destinations. -/
theorem read_v7 : after hostOps0 U (Proc.devRef .tc main_v7) = edgeRow (U (Proc.devRef .tc main_arg2)) ![1, 0] slices_S2x256000_S1x256000_1_0 := by
  after_reads_simp
  rfl

end

section

variable (m : (ℓ : Loc nD τ sig) → Buf (Elt Ideal) ℓ) (ρ : Dev nD → PrngReg) (c : Dev nD)

/-- The arguments. -/
abbrev A0 : FA S50000x128 := m ((c : Thread nD τ).loc main_arg0)
/-- Argument 1. -/
abbrev A1 : IVec S2x256000 32 := m ((c : Thread nD τ).loc main_arg1)
/-- Argument 2. -/
abbrev A2 : IVec S2x256000 32 := m ((c : Thread nD τ).loc main_arg2)
/-- Argument 3. -/
abbrev A3 : FA S128x128 := m ((c : Thread nD τ).loc main_arg3)
/-- Argument 4. -/
abbrev A4 : FA S1x4x32 := m ((c : Thread nD τ).loc main_arg4)
/-- Argument 5. -/
abbrev A5 : FA S1x4x32 := m ((c : Thread nD τ).loc main_arg5)
/-- Argument 6. -/
abbrev A6 : FA S128 := m ((c : Thread nD τ).loc main_arg6)
/-- Argument 7. -/
abbrev A7 : FA S128x128 := m ((c : Thread nD τ).loc main_arg7)
/-- Argument 8. -/
abbrev A8 : FA S1x4x32 := m ((c : Thread nD τ).loc main_arg8)
/-- Argument 9. -/
abbrev A9 : FA S1x4x32 := m ((c : Thread nD τ).loc main_arg9)
/-- Argument 10. -/
abbrev A10 : FA S128 := m ((c : Thread nD τ).loc main_arg10)

/-! What the first region reads. -/

/-- The region's first operand is the features. -/
theorem xA_eq : xA (V1 m ρ) c = A0 m c := W1_args m ρ c main_arg0 (by decide)
/-- Its second is the two weight matrices side by side. -/
theorem wA_eq : wA (V1 m ρ) c = beside (A3 m c) (A7 m c) := read_v8 (W0 m ρ c)
/-- Its third is the attention table. -/
theorem aA_eq : aA (V1 m ρ) c = table (A4 m c) (A5 m c) (A8 m c) (A9 m c) := Cert.Proof.KTable.read_v112 (W0 m ρ c)

/-! What the operations between the regions read. -/

/-- The first relation's sources, after the first region. -/
theorem words_v1 (e : Fin 256000) : (W2 m ρ c (Proc.devRef .tc main_v1) : EI) (ix1 e) = A1 m c (ix2 0 e) := by
  have h : (W2 m ρ c (Proc.devRef .tc main_v1) : EI) = edgeRow (A1 m c) ![0, 0] slices_S2x256000_S1x256000_0_0 :=
    (W2_of m ρ c main_v1 (by decide)).trans (read_v1 (W0 m ρ c))
  rw [h]
  exact edgeRow_at _ ![0, 0] _ 0 rfl rfl e

/-- The first relation's destinations, after the first region. -/
theorem words_v3 (e : Fin 256000) : (W2 m ρ c (Proc.devRef .tc main_v3) : EI) (ix1 e) = A1 m c (ix2 1 e) := by
  have h : (W2 m ρ c (Proc.devRef .tc main_v3) : EI) = edgeRow (A1 m c) ![1, 0] slices_S2x256000_S1x256000_1_0 :=
    (W2_of m ρ c main_v3 (by decide)).trans (read_v3 (W0 m ρ c))
  rw [h]
  exact edgeRow_at _ ![1, 0] _ 1 rfl rfl e

/-- The second relation's sources, after the first region. -/
theorem words_v5 (e : Fin 256000) : (W2 m ρ c (Proc.devRef .tc main_v5) : EI) (ix1 e) = A2 m c (ix2 0 e) := by
  have h : (W2 m ρ c (Proc.devRef .tc main_v5) : EI) = edgeRow (A2 m c) ![0, 0] slices_S2x256000_S1x256000_0_0 :=
    (W2_of m ρ c main_v5 (by decide)).trans (read_v5 (W0 m ρ c))
  rw [h]
  exact edgeRow_at _ ![0, 0] _ 0 rfl rfl e

/-- The second relation's destinations, after the first region. -/
theorem words_v7 (e : Fin 256000) : (W2 m ρ c (Proc.devRef .tc main_v7) : EI) (ix1 e) = A2 m c (ix2 1 e) := by
  have h : (W2 m ρ c (Proc.devRef .tc main_v7) : EI) = edgeRow (A2 m c) ![1, 0] slices_S2x256000_S1x256000_1_0 :=
    (W2_of m ρ c main_v7 (by decide)).trans (read_v7 (W0 m ρ c))
  rw [h]
  exact edgeRow_at _ ![1, 0] _ 1 rfl rfl e

variable (X : Fin 50000 → Fin 128 → EReal) (W W' : Fin 128 → Fin 128 → EReal) (a b a' b' : Fin 4 → Fin 32 → EReal)
  (hX : ∀ n k, @Eq EReal (A0 m c (ix2 n k)) (X n k : EReal)) (hW : ∀ k j, @Eq EReal (A3 m c (ix2 k j)) (W k j : EReal))
  (hW' : ∀ k j, @Eq EReal (A7 m c (ix2 k j)) (W' k j : EReal))
  (ha : ∀ h k, @Eq EReal (A4 m c (ix3 (0 : Fin 1) h k)) (a h k : EReal)) (hb : ∀ h k, @Eq EReal (A5 m c (ix3 (0 : Fin 1) h k)) (b h k : EReal))
  (ha' : ∀ h k, @Eq EReal (A8 m c (ix3 (0 : Fin 1) h k)) (a' h k : EReal)) (hb' : ∀ h k, @Eq EReal (A9 m c (ix3 (0 : Fin 1) h k)) (b' h k : EReal))

/-- The four groups of halves of logits. -/
abbrev halves : Fin 4 → Fin 4 → Fin 50000 → EReal := ![half X W a, half X W b, half X W' a', half X W' b']

include hX hW in
/-- The first relation's projected features, after the first region. -/
theorem xl0_at (n : Fin 50000) (q : Fin 128) : @Eq EReal ((W2 m ρ c (Proc.devRef .tc main_v113_0) : FA S50000x128) (ix2 n q)) (feat X W n q : EReal) := by
  refine (congrFun (W2_arr m ρ c 3) (ix2 n q)).trans ?_
  refine (arr0_3 (V1 m ρ) c n q).trans ?_
  rw [xA_eq, wA_eq]
  exact prod_left X W _ _ _ hX hW n q

include hX hW' in
/-- The second relation's projected features, after the first region. -/
theorem xl1_at (n : Fin 50000) (q : Fin 128) : @Eq EReal ((W2 m ρ c (Proc.devRef .tc main_v113_1) : FA S50000x128) (ix2 n q)) (feat X W' n q : EReal) := by
  refine (congrFun (W2_arr m ρ c 4) (ix2 n q)).trans ?_
  refine (arr0_4 (V1 m ρ) c n q).trans ?_
  rw [xA_eq, wA_eq]
  exact prod_right X W' _ _ _ hX hW' n q

include hX hW hW' ha hb ha' hb' in
/-- A node's halves of the logits, by group and head. -/
theorem score_at (n : Fin 50000) (g k : Fin 4) :
    score (xA (V1 m ρ) c) (wA (V1 m ρ) c) (aA (V1 m ρ) c) n (slot g k) = (halves X W W' a b a' b' g k n : EReal) := by
  rw [xA_eq, wA_eq, aA_eq]
  match g with
  | ⟨0, _⟩ => exact score_0 X W W' _ _ _ hX hW hW' _ _ _ _ a ha n k
  | ⟨1, _⟩ => exact score_1 X W W' _ _ _ hX hW hW' _ _ _ _ b hb n k
  | ⟨2, _⟩ => exact score_2 X W W' _ _ _ hX hW hW' _ _ _ _ a' ha' n k
  | ⟨3, _⟩ => exact score_3 X W W' _ _ _ hX hW hW' _ _ _ _ b' hb' n k

include hX hW hW' ha hb ha' hb' in
/-- The halves of the logits, after the first region. -/
theorem s_at (n : Fin 50000) (g k : Fin 4) :
    @Eq EReal ((W2 m ρ c (Proc.devRef .tc main_v113_2) : FA S50000x16) (ix2 n (slot g k))) (halves X W W' a b a' b' g k n : EReal) := by
  refine (congrFun (W2_arr m ρ c 5) (ix2 n (slot g k))).trans ?_
  exact (arr0_5 (V1 m ρ) c n (slot g k)).trans (score_at m ρ c X W W' a b a' b' hX hW hW' ha hb ha' hb' n g k)

include hX hW hW' ha hb ha' hb' in
/-- The blocks' maxima of the halves, after the first region. -/
theorem mx_at (g k : Fin 4) (r : Fin 200) :
    @Eq EReal ((W2 m ρ c (Proc.devRef .tc main_v113_3) : FA S200x16) (ix2 r (slot g k)))
      (Finset.univ.sup fun j : Fin 2000 => ((halves X W W' a b a' b' g k (blockIx r j) : EReal) : EReal)) := by
  refine (congrFun (W2_arr m ρ c 6) (ix2 r (slot g k))).trans ?_
  refine (arr0_6 (V1 m ρ) c r (slot g k)).trans ?_
  unfold peak
  exact Finset.sup_congr rfl fun j _ => score_at m ρ c X W W' a b a' b' hX hW hW' ha hb ha' hb' (blockIx r j) g k

/-! The two relations' edges. -/

/-- The first relation's source words. -/
abbrev src0 (e : Fin 256000) : BitVec 32 := A1 m c (ix2 (0 : Fin 2) e)
/-- The first relation's destination words. -/
abbrev dst0 (e : Fin 256000) : BitVec 32 := A1 m c (ix2 (1 : Fin 2) e)
/-- The second relation's source words. -/
abbrev src1 (e : Fin 256000) : BitVec 32 := A2 m c (ix2 (0 : Fin 2) e)
/-- The second relation's destination words. -/
abbrev dst1 (e : Fin 256000) : BitVec 32 := A2 m c (ix2 (1 : Fin 2) e)

include hX hW hW' ha hb ha' hb' in
/-- The first relation's weight of an edge at a head. -/
theorem w0_at (e : Fin 256000) (k : Fin 4) :
    @Eq EReal (w0 (W2 m ρ c) (ix2 e k)) (ew (src0 m c) (dst0 m c) (half X W a k) (half X W b k) (bound (half X W a k) (half X W b k)) e : EReal) := by
  unfold w0
  have hl := logits_at (W2 m ρ c (Proc.devRef .tc main_v113_2)) ![0, 0] ![0, 4] slices_S50000x16_S50000x4_0_0 slices_S50000x16_S50000x4_0_4
    (W2 m ρ c (Proc.devRef .tc main_v1)) (W2 m ρ c (Proc.devRef .tc main_v3)) 0 1 rfl rfl rfl rfl (half X W a) (half X W b)
    (fun n k => s_at m ρ c X W W' a b a' b' hX hW hW' ha hb ha' hb' n 0 k) (fun n k => s_at m ρ c X W W' a b a' b' hX hW hW' ha hb ha' hb' n 1 k) e k
  rw [words_v1, words_v3] at hl
  refine weights_at _ _ e k _ (bound (half X W a k) (half X W b k)) hl ?_
  rw [capOf_at _ _ _ k (lo k) rfl (by show 0 + k.val = k.val; omega)]
  exact bounds_lo _ (half X W a) (half X W b) (half X W' a') (half X W' b') (fun g k r => mx_at m ρ c X W W' a b a' b' hX hW hW' ha hb ha' hb' g k r) k

include hX hW hW' ha hb ha' hb' in
/-- The first relation's sum of weights at a node and a head. -/
theorem den0_at (n : Fin 50000) (k : Fin 4) :
    @Eq EReal ((V11 m ρ c main_v157 : FA S50000x4) (ix2 n k)) (den (src0 m c) (dst0 m c) (half X W a k) (half X W b k) (bound (half X W a k) (half X W b k)) n : EReal) := by
  have h : (V11 m ρ c main_v157 : FA S50000x4) = dens (w0 (W2 m ρ c)) (W2 m ρ c (Proc.devRef .tc main_v3)) := read_v157 (W2 m ρ c)
  rw [h]
  refine (dens_at _ _ _ k (fun e => w0_at m ρ c X W W' a b a' b' hX hW hW' ha hb ha' hb' e k) n).trans ?_
  refine Finset.sum_congr rfl fun e _ => ?_
  rw [words_v3]

include hX hW hW' ha hb ha' hb' in
/-- The first relation's weighted sum of features at a node, a head and a channel. -/
theorem nums0_at (n : Fin 50000) (k : Fin 4) (q : Fin 32) :
    @Eq EReal (nums (w0 (W2 m ρ c)) (W2 m ρ c (Proc.devRef .tc main_v113_0)) (W2 m ρ c (Proc.devRef .tc main_v1)) (W2 m ρ c (Proc.devRef .tc main_v3)) (ix3 n k q))
      (num (src0 m c) (dst0 m c) (half X W a k) (half X W b k) (fun p => feat X W p (col k q)) (bound (half X W a k) (half X W b k)) n : EReal) := by
  refine (nums_at _ _ _ _ _ (fun p => feat X W p (col k q)) k q (fun e => w0_at m ρ c X W W' a b a' b' hX hW hW' ha hb ha' hb' e k)
    (fun p => xl0_at m ρ c X W hX hW p (col k q)) n).trans ?_
  refine Finset.sum_congr rfl fun e _ => ?_
  rw [words_v1, words_v3]

include hX hW hW' ha hb ha' hb' in
/-- The same, as the second region's blocks hold it. -/
theorem heads0_at (t : Fin 25) (j : Fin 2000) (k : Fin 4) (q : Fin 32) :
    @Eq EReal ((![iblk1 (V11 m ρ) c 6 t, iblk1 (V11 m ρ) c 7 t, iblk1 (V11 m ρ) c 8 t, iblk1 (V11 m ρ) c 9 t] : Fin 4 → FA S2000x32) k (ix2 j q))
      (num (src0 m c) (dst0 m c) (half X W a k) (half X W b k) (fun p => feat X W p (col k q)) (bound (half X W a k) (half X W b k)) (nodeIx t j) : EReal) := by
  match k with
  | ⟨0, _⟩ =>
    refine (at_0 _ _ _ _ _).trans ((blk6_at (V11 m ρ) c t j q).trans ?_)
    refine (congrFun (read_v173 (W2 m ρ c)) (ix2 (nodeIx t j) q)).trans ?_
    exact (headOf_at _ _ _ 0 rfl rfl rfl (nodeIx t j) q).trans (nums0_at m ρ c X W W' a b a' b' hX hW hW' ha hb ha' hb' (nodeIx t j) 0 q)
  | ⟨1, _⟩ =>
    refine (at_1 _ _ _ _ _).trans ((blk7_at (V11 m ρ) c t j q).trans ?_)
    refine (congrFun (read_v175 (W2 m ρ c)) (ix2 (nodeIx t j) q)).trans ?_
    exact (headOf_at _ _ _ 1 rfl rfl rfl (nodeIx t j) q).trans (nums0_at m ρ c X W W' a b a' b' hX hW hW' ha hb ha' hb' (nodeIx t j) 1 q)
  | ⟨2, _⟩ =>
    refine (at_2 _ _ _ _ _).trans ((blk8_at (V11 m ρ) c t j q).trans ?_)
    refine (congrFun (read_v177 (W2 m ρ c)) (ix2 (nodeIx t j) q)).trans ?_
    exact (headOf_at _ _ _ 2 rfl rfl rfl (nodeIx t j) q).trans (nums0_at m ρ c X W W' a b a' b' hX hW hW' ha hb ha' hb' (nodeIx t j) 2 q)
  | ⟨3, _⟩ =>
    refine (at_3 _ _ _ _ _).trans ((blk9_at (V11 m ρ) c t j q).trans ?_)
    refine (congrFun (read_v179 (W2 m ρ c)) (ix2 (nodeIx t j) q)).trans ?_
    exact (headOf_at _ _ _ 3 rfl rfl rfl (nodeIx t j) q).trans (nums0_at m ρ c X W W' a b a' b' hX hW hW' ha hb ha' hb' (nodeIx t j) 3 q)

include hX hW hW' ha hb ha' hb' in
/-- The first relation's self loop weight in the second region. -/
theorem loop0_at (t : Fin 25) (j : Fin 2000) (k : Fin 4) :
    @Eq EReal (loops0 (iblk1 (V11 m ρ) c 0 t) (iblk1 (V11 m ρ) c 1 t) (ix2 j k)) (sw (half X W a k) (half X W b k) (bound (half X W a k) (half X W b k)) (nodeIx t j) : EReal) := by
  have hs : ∀ g : Fin 4, @Eq EReal ((iblk1 (V11 m ρ) c 0 t : FA S2000x16) (ix2 j (slot g k))) (halves X W W' a b a' b' g k (nodeIx t j) : EReal) := fun g =>
    (blk0_at (V11 m ρ) c t j (slot g k)).trans ((congrFun (keep_v113_2 (W2 m ρ c)) (ix2 (nodeIx t j) (slot g k))).trans
      (s_at m ρ c X W W' a b a' b' hX hW hW' ha hb ha' hb' (nodeIx t j) g k))
  have hk : @Eq EReal ((iblk1 (V11 m ρ) c 1 t : FA S1x16) (ix2 (0 : Fin 1) (lo k))) (bound (half X W a k) (half X W b k) : EReal) := by
    refine (congrFun (blk1_at (V11 m ρ) c t) (ix2 (0 : Fin 1) (lo k))).trans ?_
    refine (congrFun (read_v126 (W2 m ρ c)) (ix2 (0 : Fin 1) (lo k))).trans ?_
    exact bounds_lo _ (half X W a) (half X W b) (half X W' a') (half X W' b') (fun g k r => mx_at m ρ c X W W' a b a' b' hX hW hW' ha hb ha' hb' g k r) k
  exact loops_at (iblk1 (V11 m ρ) c 0 t) (iblk1 (V11 m ρ) c 1 t) _ _ _ _ _ _ 0 1 rfl rfl rfl rfl j k (lo k) rfl (by show 0 + k.val = k.val; omega) _ _ _ (hs 0) (hs 1) hk

include hX hW hW' ha hb ha' hb' in
/-- The first relation's output in the second region. -/
theorem rel0_at (t : Fin 25) (j : Fin 2000) (k : Fin 4) (q : Fin 32) :
    @Eq EReal (rel (loops0 (iblk1 (V11 m ρ) c 0 t) (iblk1 (V11 m ρ) c 1 t)) (addf (iblk1 (V11 m ρ) c 2 t : FA S2000x4) (loops0 (iblk1 (V11 m ρ) c 0 t) (iblk1 (V11 m ρ) c 1 t)))
        (iblk1 (V11 m ρ) c 4 t) (iblk1 (V11 m ρ) c 6 t) (iblk1 (V11 m ρ) c 7 t) (iblk1 (V11 m ρ) c 8 t) (iblk1 (V11 m ρ) c 9 t) (ix2 j (col k q)))
      (out (src0 m c) (dst0 m c) X W a b (nodeIx t j) k q : EReal) := by
  have hl := loop0_at m ρ c X W W' a b a' b' hX hW hW' ha hb ha' hb' t j k
  have hd : @Eq EReal ((iblk1 (V11 m ρ) c 2 t : FA S2000x4) (ix2 j k)) _ := (blk2_at (V11 m ρ) c t j k).trans (den0_at m ρ c X W W' a b a' b' hX hW hW' ha hb ha' hb' (nodeIx t j) k)
  have hx : @Eq EReal ((iblk1 (V11 m ρ) c 4 t : FA S2000x128) (ix2 j (col k q))) _ :=
    (blk4_at (V11 m ρ) c t j (col k q)).trans ((congrFun (keep_v113_0 (W2 m ρ c)) (ix2 (nodeIx t j) (col k q))).trans
      (xl0_at m ρ c X W hX hW (nodeIx t j) (col k q)))
  unfold out agg
  refine rel_at _ _ _ _ _ _ _ j k q _ _ (den (src0 m c) (dst0 m c) (half X W a k) (half X W b k) (bound (half X W a k) (half X W b k)) (nodeIx t j) + sw (half X W a k) (half X W b k) (bound (half X W a k) (half X W b k)) (nodeIx t j)) _ (heads0_at m ρ c X W W' a b a' b' hX hW hW' ha hb ha' hb' t j k q) hl ?_ hx
  exact congrArg₂ (fun p q : EReal => p + q) hd hl

include hX hW hW' ha hb ha' hb' in
/-- The second relation's weight of an edge at a head. -/
theorem w1_at (e : Fin 256000) (k : Fin 4) :
    @Eq EReal (w1 (W2 m ρ c) (ix2 e k)) (ew (src1 m c) (dst1 m c) (half X W' a' k) (half X W' b' k) (bound (half X W' a' k) (half X W' b' k)) e : EReal) := by
  unfold w1
  have hl := logits_at (W2 m ρ c (Proc.devRef .tc main_v113_2)) ![0, 8] ![0, 12] slices_S50000x16_S50000x4_0_8 slices_S50000x16_S50000x4_0_12
    (W2 m ρ c (Proc.devRef .tc main_v5)) (W2 m ρ c (Proc.devRef .tc main_v7)) 2 3 rfl rfl rfl rfl (half X W' a') (half X W' b')
    (fun n k => s_at m ρ c X W W' a b a' b' hX hW hW' ha hb ha' hb' n 2 k) (fun n k => s_at m ρ c X W W' a b a' b' hX hW hW' ha hb ha' hb' n 3 k) e k
  rw [words_v5, words_v7] at hl
  refine weights_at _ _ e k _ (bound (half X W' a' k) (half X W' b' k)) hl ?_
  rw [capOf_at _ _ _ k (hi k) rfl (by rfl)]
  exact bounds_hi _ (half X W a) (half X W b) (half X W' a') (half X W' b') (fun g k r => mx_at m ρ c X W W' a b a' b' hX hW hW' ha hb ha' hb' g k r) k

include hX hW hW' ha hb ha' hb' in
/-- The second relation's sum of weights at a node and a head. -/
theorem den1_at (n : Fin 50000) (k : Fin 4) :
    @Eq EReal ((V11 m ρ c main_v210 : FA S50000x4) (ix2 n k)) (den (src1 m c) (dst1 m c) (half X W' a' k) (half X W' b' k) (bound (half X W' a' k) (half X W' b' k)) n : EReal) := by
  have h : (V11 m ρ c main_v210 : FA S50000x4) = dens (w1 (W2 m ρ c)) (W2 m ρ c (Proc.devRef .tc main_v7)) := read_v210 (W2 m ρ c)
  rw [h]
  refine (dens_at _ _ _ k (fun e => w1_at m ρ c X W W' a b a' b' hX hW hW' ha hb ha' hb' e k) n).trans ?_
  refine Finset.sum_congr rfl fun e _ => ?_
  rw [words_v7]

include hX hW hW' ha hb ha' hb' in
/-- The second relation's weighted sum of features at a node, a head and a channel. -/
theorem nums1_at (n : Fin 50000) (k : Fin 4) (q : Fin 32) :
    @Eq EReal (nums (w1 (W2 m ρ c)) (W2 m ρ c (Proc.devRef .tc main_v113_1)) (W2 m ρ c (Proc.devRef .tc main_v5)) (W2 m ρ c (Proc.devRef .tc main_v7)) (ix3 n k q))
      (num (src1 m c) (dst1 m c) (half X W' a' k) (half X W' b' k) (fun p => feat X W' p (col k q)) (bound (half X W' a' k) (half X W' b' k)) n : EReal) := by
  refine (nums_at _ _ _ _ _ (fun p => feat X W' p (col k q)) k q (fun e => w1_at m ρ c X W W' a b a' b' hX hW hW' ha hb ha' hb' e k)
    (fun p => xl1_at m ρ c X W' hX hW' p (col k q)) n).trans ?_
  refine Finset.sum_congr rfl fun e _ => ?_
  rw [words_v5, words_v7]

include hX hW hW' ha hb ha' hb' in
/-- The same, as the second region's blocks hold it. -/
theorem heads1_at (t : Fin 25) (j : Fin 2000) (k : Fin 4) (q : Fin 32) :
    @Eq EReal ((![iblk1 (V11 m ρ) c 10 t, iblk1 (V11 m ρ) c 11 t, iblk1 (V11 m ρ) c 12 t, iblk1 (V11 m ρ) c 13 t] : Fin 4 → FA S2000x32) k (ix2 j q))
      (num (src1 m c) (dst1 m c) (half X W' a' k) (half X W' b' k) (fun p => feat X W' p (col k q)) (bound (half X W' a' k) (half X W' b' k)) (nodeIx t j) : EReal) := by
  match k with
  | ⟨0, _⟩ =>
    refine (at_0 _ _ _ _ _).trans ((blk10_at (V11 m ρ) c t j q).trans ?_)
    refine (congrFun (read_v226 (W2 m ρ c)) (ix2 (nodeIx t j) q)).trans ?_
    exact (headOf_at _ _ _ 0 rfl rfl rfl (nodeIx t j) q).trans (nums1_at m ρ c X W W' a b a' b' hX hW hW' ha hb ha' hb' (nodeIx t j) 0 q)
  | ⟨1, _⟩ =>
    refine (at_1 _ _ _ _ _).trans ((blk11_at (V11 m ρ) c t j q).trans ?_)
    refine (congrFun (read_v228 (W2 m ρ c)) (ix2 (nodeIx t j) q)).trans ?_
    exact (headOf_at _ _ _ 1 rfl rfl rfl (nodeIx t j) q).trans (nums1_at m ρ c X W W' a b a' b' hX hW hW' ha hb ha' hb' (nodeIx t j) 1 q)
  | ⟨2, _⟩ =>
    refine (at_2 _ _ _ _ _).trans ((blk12_at (V11 m ρ) c t j q).trans ?_)
    refine (congrFun (read_v230 (W2 m ρ c)) (ix2 (nodeIx t j) q)).trans ?_
    exact (headOf_at _ _ _ 2 rfl rfl rfl (nodeIx t j) q).trans (nums1_at m ρ c X W W' a b a' b' hX hW hW' ha hb ha' hb' (nodeIx t j) 2 q)
  | ⟨3, _⟩ =>
    refine (at_3 _ _ _ _ _).trans ((blk13_at (V11 m ρ) c t j q).trans ?_)
    refine (congrFun (read_v232 (W2 m ρ c)) (ix2 (nodeIx t j) q)).trans ?_
    exact (headOf_at _ _ _ 3 rfl rfl rfl (nodeIx t j) q).trans (nums1_at m ρ c X W W' a b a' b' hX hW hW' ha hb ha' hb' (nodeIx t j) 3 q)

include hX hW hW' ha hb ha' hb' in
/-- The second relation's self loop weight in the second region. -/
theorem loop1_at (t : Fin 25) (j : Fin 2000) (k : Fin 4) :
    @Eq EReal (loops1 (iblk1 (V11 m ρ) c 0 t) (iblk1 (V11 m ρ) c 1 t) (ix2 j k)) (sw (half X W' a' k) (half X W' b' k) (bound (half X W' a' k) (half X W' b' k)) (nodeIx t j) : EReal) := by
  have hs : ∀ g : Fin 4, @Eq EReal ((iblk1 (V11 m ρ) c 0 t : FA S2000x16) (ix2 j (slot g k))) (halves X W W' a b a' b' g k (nodeIx t j) : EReal) := fun g =>
    (blk0_at (V11 m ρ) c t j (slot g k)).trans ((congrFun (keep_v113_2 (W2 m ρ c)) (ix2 (nodeIx t j) (slot g k))).trans
      (s_at m ρ c X W W' a b a' b' hX hW hW' ha hb ha' hb' (nodeIx t j) g k))
  have hk : @Eq EReal ((iblk1 (V11 m ρ) c 1 t : FA S1x16) (ix2 (0 : Fin 1) (hi k))) (bound (half X W' a' k) (half X W' b' k) : EReal) := by
    refine (congrFun (blk1_at (V11 m ρ) c t) (ix2 (0 : Fin 1) (hi k))).trans ?_
    refine (congrFun (read_v126 (W2 m ρ c)) (ix2 (0 : Fin 1) (hi k))).trans ?_
    exact bounds_hi _ (half X W a) (half X W b) (half X W' a') (half X W' b') (fun g k r => mx_at m ρ c X W W' a b a' b' hX hW hW' ha hb ha' hb' g k r) k
  exact loops_at (iblk1 (V11 m ρ) c 0 t) (iblk1 (V11 m ρ) c 1 t) _ _ _ _ _ _ 2 3 rfl rfl rfl rfl j k (hi k) rfl (by rfl) _ _ _ (hs 2) (hs 3) hk

include hX hW hW' ha hb ha' hb' in
/-- The second relation's output in the second region. -/
theorem rel1_at (t : Fin 25) (j : Fin 2000) (k : Fin 4) (q : Fin 32) :
    @Eq EReal (rel (loops1 (iblk1 (V11 m ρ) c 0 t) (iblk1 (V11 m ρ) c 1 t)) (addf (iblk1 (V11 m ρ) c 3 t : FA S2000x4) (loops1 (iblk1 (V11 m ρ) c 0 t) (iblk1 (V11 m ρ) c 1 t)))
        (iblk1 (V11 m ρ) c 5 t) (iblk1 (V11 m ρ) c 10 t) (iblk1 (V11 m ρ) c 11 t) (iblk1 (V11 m ρ) c 12 t) (iblk1 (V11 m ρ) c 13 t) (ix2 j (col k q)))
      (out (src1 m c) (dst1 m c) X W' a' b' (nodeIx t j) k q : EReal) := by
  have hl := loop1_at m ρ c X W W' a b a' b' hX hW hW' ha hb ha' hb' t j k
  have hd : @Eq EReal ((iblk1 (V11 m ρ) c 3 t : FA S2000x4) (ix2 j k)) _ := (blk3_at (V11 m ρ) c t j k).trans (den1_at m ρ c X W W' a b a' b' hX hW hW' ha hb ha' hb' (nodeIx t j) k)
  have hx : @Eq EReal ((iblk1 (V11 m ρ) c 5 t : FA S2000x128) (ix2 j (col k q))) _ :=
    (blk5_at (V11 m ρ) c t j (col k q)).trans ((congrFun (keep_v113_1 (W2 m ρ c)) (ix2 (nodeIx t j) (col k q))).trans
      (xl1_at m ρ c X W' hX hW' (nodeIx t j) (col k q)))
  unfold out agg
  refine rel_at _ _ _ _ _ _ _ j k q _ _ (den (src1 m c) (dst1 m c) (half X W' a' k) (half X W' b' k) (bound (half X W' a' k) (half X W' b' k)) (nodeIx t j) + sw (half X W' a' k) (half X W' b' k) (bound (half X W' a' k) (half X W' b' k)) (nodeIx t j)) _ (heads1_at m ρ c X W W' a b a' b' hX hW hW' ha hb ha' hb' t j k q) hl ?_ hx
  exact congrArg₂ (fun p q : EReal => p + q) hd hl

include hX hW hW' ha hb ha' hb' in
/-- The kernel's result at a node, a head and a channel: both relations' outputs and the sum of the biases. -/
theorem final (n : Fin 50000) (k : Fin 4) (q : Fin 32) :
    @Eq EReal ((dat1 (V11 m ρ) c).arrAt 15 cfg1.N (ix2 n (col k q)))
      (((out (src0 m c) (dst0 m c) X W a b n k q : EReal) : EReal) + ((out (src1 m c) (dst1 m c) X W' a' b' n k q : EReal) : EReal)
        + ((A6 m c (ix1 (col k q)) : EReal) + (A10 m c (ix1 (col k q)) : EReal))) := by
  refine (arr1_15 (V11 m ρ) c n (col k q)).trans ?_
  have h0 := rel0_at m ρ c X W W' a b a' b' hX hW hW' ha hb ha' hb' (blockOf n) (placeOf n) k q
  have h1 := rel1_at m ρ c X W W' a b a' b' hX hW hW' ha hb ha' hb' (blockOf n) (placeOf n) k q
  rw [node_place] at h0 h1
  refine total_at _ _ _ _ _ _ _ _ _ _ _ _ _ _ _ (placeOf n) (col k q) _ _ _ h0 h1 ?_
  refine (congrFun (blk14_at (V11 m ρ) c (blockOf n)) (ix2 (0 : Fin 1) (col k q))).trans ?_
  refine (congrFun (read_v234 (W2 m ρ c)) (ix2 (0 : Fin 1) (col k q))).trans ?_
  rw [W2_args m ρ c main_arg6 (by decide), W2_args m ρ c main_arg10 (by decide)]
  exact biasRow_at _ _ (col k q)

end

end Cert.Proof.KValue

end
-- ==== Proof.RefValue.lean ====
module

public import proofs.«01_k».proof.Proof.Gen.ReferenceIdeal.Read
public import proofs.«01_k».proof.Proof.Rows
public import proofs.«01_k».proof.Proof.Spec

@[expose] public section

/-! The reference's value at a node and a column: one relation's attention over the reals plus its bias. -/

noncomputable section

namespace Cert.Proof.RefValue

open Cert.ReferenceIdeal Cert.ReferenceIdeal.Gen Cert.ReferenceIdeal.Read Cert.Proof.Rows Cert.Proof.Spec
open Idealize.ShloMosaic Idealize.ShloMosaic.ValueIdx

/-- An array of floats of the shape, and of words. -/
abbrev FA (S : Shape) := (⟨S, .f32⟩ : BufTy).Contents (Elt Ideal)
/-- An array of 32-bit words. -/
abbrev IA (S : Shape) := (⟨S, .i32⟩ : BufTy).Contents (Elt Ideal)

/-- A maximum kept where it is a number and 0 elsewhere is a real number. -/
theorem kept_real (y : EReal) : ∃ a : ℝ, Scalar.select (Ideal.cmp .olt (max y (-y)) ⊤) y 0 = ((a : ℝ) : EReal) := by
  unfold Ideal.cmp
  rw [WordCmp.select_decide]
  induction y using EReal.rec with
  | bot => exact ⟨0, by simp⟩
  | top => exact ⟨0, by simp⟩
  | coe r =>
    refine ⟨r, if_pos (max_lt (EReal.coe_lt_top r) ?_)⟩
    rw [← EReal.coe_neg]
    exact EReal.coe_lt_top _

section

variable (x0 : FA S50000x128) (x1 : IA S2x256000) (x3 : FA S128x128) (x4 x5 : FA S1x4x32)

/-- The source word of an edge. -/
abbrev src (e : Fin 256000) : BitVec 32 := x1 (ix2 (0 : Fin 2) e)
/-- The target word of an edge. -/
abbrev dst (e : Fin 256000) : BitVec 32 := x1 (ix2 (1 : Fin 2) e)
/-- The source word of an entry of the list with the self loops. -/
abbrev src' (e : Fin 306000) : BitVec 32 := val_main_v5 (F := Ideal) x1 (ix1 e)
/-- The target word of an entry of the list with the self loops. -/
abbrev dst' (e : Fin 306000) : BitVec 32 := val_main_v8 (F := Ideal) x1 (ix1 e)

/-- The list's sources begin with the edges'. -/
theorem src'_edge (e : Fin 256000) : src' x1 (edgeIx e) = src x1 e := by
  show val_main_v5 (F := Ideal) x1 _ = _
  unfold val_main_v5
  rw [concatenate_pair_apply_left (t := S306000) (s₁ := S256000) (s₂ := S50000) 0 _ _ concatenates_S256000_S50000_S306000_d0 _ rfl (ix1 e)
    (fun b => by match b with | ⟨0, _⟩ => rfl)]
  rw [val_main_v4_apply, val_main_v3_apply]
  refine congrArg x1 (funext fun a => Fin.ext ?_)
  match a with
  | ⟨0, _⟩ => rfl
  | ⟨1, _⟩ => exact Nat.mod_eq_of_lt e.isLt

/-- The list's targets begin with the edges'. -/
theorem dst'_edge (e : Fin 256000) : dst' x1 (edgeIx e) = dst x1 e := by
  show val_main_v8 (F := Ideal) x1 _ = _
  unfold val_main_v8
  rw [concatenate_pair_apply_left (t := S306000) (s₁ := S256000) (s₂ := S50000) 0 _ _ concatenates_S256000_S50000_S306000_d0 _ rfl (ix1 e)
    (fun b => by match b with | ⟨0, _⟩ => rfl)]
  rw [val_main_v7_apply, val_main_v6_apply]
  refine congrArg x1 (funext fun a => Fin.ext ?_)
  match a with
  | ⟨0, _⟩ => rfl
  | ⟨1, _⟩ => exact Nat.mod_eq_of_lt e.isLt

/-- They end with the nodes, in order. -/
theorem src'_loop (k : Fin 50000) : src' x1 (loopIx k) = BitVec.ofNat 32 k.val := by
  show val_main_v5 (F := Ideal) x1 _ = _
  unfold val_main_v5
  rw [concatenate_pair_apply_right (t := S306000) (s₁ := S256000) (s₂ := S50000) 0 _ _ concatenates_S256000_S50000_S306000_d0 _ rfl rfl (ix1 k)
    (fun b hb => absurd (Subsingleton.elim _ _) hb) (by show k.val + 256000 = 256000 + k.val; omega)]
  rfl

/-- They end with the nodes, in order. -/
theorem dst'_loop (k : Fin 50000) : dst' x1 (loopIx k) = BitVec.ofNat 32 k.val := by
  show val_main_v8 (F := Ideal) x1 _ = _
  unfold val_main_v8
  rw [concatenate_pair_apply_right (t := S306000) (s₁ := S256000) (s₂ := S50000) 0 _ _ concatenates_S256000_S50000_S306000_d0 _ rfl rfl (ix1 k)
    (fun b hb => absurd (Subsingleton.elim _ _) hb) (by show k.val + 256000 = 256000 + k.val; omega)]
  rfl

/-! The wrapped words. -/

/-- The wrapped source word of an entry. -/
theorem v20_at (e : Fin 306000) : val_main_v20 (F := Ideal) x1 (ix2 e (0 : Fin 1)) = wrap (src' x1 e) := by
  rw [val_main_v20_apply]
  have hi : idx_main_v20 (ix2 e (0 : Fin 1)) = ix1 e := funext fun a => by match a with | ⟨0, _⟩ => rfl
  rw [hi, val_main_v19_apply, val_main_v16_apply, val_main_v18_apply, val_main_v15_apply, val_main_v17_apply]
  rfl

/-- The wrapped target word of an entry. -/
theorem v27_at (e : Fin 306000) : val_main_v27 (F := Ideal) x1 (ix2 e (0 : Fin 1)) = wrap (dst' x1 e) := by
  rw [val_main_v27_apply]
  have hi : idx_main_v27 (ix2 e (0 : Fin 1)) = ix1 e := funext fun a => by match a with | ⟨0, _⟩ => rfl
  rw [hi, val_main_v26_apply, val_main_v23_apply, val_main_v25_apply, val_main_v22_apply, val_main_v24_apply]
  rfl

/-- The wrapped target word, where the shift is taken. -/
theorem v49_at (e : Fin 306000) : val_main_v49 (F := Ideal) x1 (ix2 e (0 : Fin 1)) = wrap (dst' x1 e) := v27_at x1 e
/-- The wrapped target word, where the denominator is taken. -/
theorem v72_at (e : Fin 306000) : val_main_v72 (F := Ideal) x1 (ix2 e (0 : Fin 1)) = wrap (dst' x1 e) := v27_at x1 e
/-- The wrapped source word, where the features are taken. -/
theorem v80_at (e : Fin 306000) : val_main_v80 (F := Ideal) x1 (ix2 e (0 : Fin 1)) = wrap (src' x1 e) := v20_at x1 e

/-- The target word an entry's weight is added at. -/
theorem v54_at (e : Fin 306000) : val_main_v54 (F := Ideal) x1 (ix2 e (0 : Fin 1)) = dst' x1 e := by
  rw [val_main_v54_apply]
  have hi : idx_main_v54 (ix2 e (0 : Fin 1)) = ix1 e := funext fun a => by match a with | ⟨0, _⟩ => rfl
  rw [hi]

/-- The target word an entry's message is added at. -/
theorem v86_at (e : Fin 306000) : val_main_v86 (F := Ideal) x1 (ix2 e (0 : Fin 1)) = dst' x1 e := v54_at x1 e

/-! The taken rows. -/

/-- A taken row of a table of heads, at the wrapped word. -/
theorem take2 (x : FA S50000x4) (idx : IA S306000x1) (w : BitVec 32) (e : Fin 306000) (h : Fin 4)
    (hw : idx (ix2 e (0 : Fin 1)) = wrap w) :
    Host.gather gather_S50000x4_S306000x1_S306000x4_1_0_n_n_0_1_14 x idx (ix2 e h) = x (ix2 (row w) h) := by
  refine (gather2 (by decide) gather_S50000x4_S306000x1_S306000x4_1_0_n_n_0_1_14.wf x idx e h).trans ?_
  refine congrArg (fun m : Fin 50000 => x (ix2 m h)) (Fin.ext ?_)
  show min (idx (ix2 e 0)).toInt.toNat (50000 - 1) = min (wrap w).toInt.toNat (50000 - 1)
  exact congrArg (fun v : BitVec 32 => min v.toInt.toNat (50000 - 1)) hw

/-- A taken slab of a table of features, at the wrapped word. -/
theorem take3 (x : FA S50000x4x32) (idx : IA S306000x1) (w : BitVec 32) (e : Fin 306000) (h : Fin 4) (c : Fin 32)
    (hw : idx (ix2 e (0 : Fin 1)) = wrap w) :
    Host.gather gather_S50000x4x32_S306000x1_S306000x4x32_12_0_n_n_0_1_1432 x idx (ix3 e h c) = x (ix3 (row w) h c) := by
  refine (gather3 (by decide) gather_S50000x4x32_S306000x1_S306000x4x32_12_0_n_n_0_1_1432.wf x idx e h c).trans ?_
  refine congrArg (fun m : Fin 50000 => x (ix3 m h c)) (Fin.ext ?_)
  show min (idx (ix2 e 0)).toInt.toNat (50000 - 1) = min (wrap w).toInt.toNat (50000 - 1)
  exact congrArg (fun v : BitVec 32 => min v.toInt.toNat (50000 - 1)) hw

/-! The values, at inputs named by functions. -/

variable (X : Fin 50000 → Fin 128 → EReal) (W : Fin 128 → Fin 128 → EReal) (a b : Fin 4 → Fin 32 → EReal)
  (hX : ∀ n k, @Eq EReal (x0 (ix2 n k)) (X n k : EReal)) (hW : ∀ k j, @Eq EReal (x3 (ix2 k j)) (W k j : EReal))
  (ha : ∀ h c, @Eq EReal (x4 (ix3 (0 : Fin 1) h c)) (a h c : EReal)) (hb : ∀ h c, @Eq EReal (x5 (ix3 (0 : Fin 1) h c)) (b h c : EReal))

include hX hW in
/-- The projected features at a node, a head and a channel. -/
theorem v1_at (n : Fin 50000) (h : Fin 4) (c : Fin 32) :
    @Eq EReal (val_main_v1 (F := Ideal) x0 x3 (ix3 n h c)) (feat X W n (col h c) : EReal) := by
  have h1 := h.isLt
  have h2 := c.isLt
  rw [val_main_v1_apply]
  have hi : idx_main_v1 (ix3 n h c) = ix2 n (col h c) := funext fun a => Fin.ext (by
    match a with
    | ⟨0, _⟩ => show ((n.val * 4 + h.val) * 32 + c.val) / 128 = n.val; omega
    | ⟨1, _⟩ => show ((n.val * 4 + h.val) * 32 + c.val) % 128 = 32 * h.val + c.val; omega)
  rw [hi, val_main_v0_apply]
  unfold feat
  refine Finset.sum_congr rfl fun k _ => ?_
  have e1 : lidx_main_v0 (ix2 n (col h c)) k = ix2 n k := funext fun a => by match a with | ⟨0, _⟩ => rfl | ⟨1, _⟩ => rfl
  have e2 : ridx_main_v0 (ix2 n (col h c)) k = ix2 k (col h c) := funext fun a => by match a with | ⟨0, _⟩ => rfl | ⟨1, _⟩ => rfl
  rw [e1, e2]
  exact congrArg₂ (fun p q : EReal => p * q) (hX n k) (hW k (col h c))

include hX hW ha in
/-- A half of a logit at a node and a head. -/
theorem v11_at (n : Fin 50000) (h : Fin 4) :
    @Eq EReal (val_main_v11 (F := Ideal) x0 x3 x4 (ix2 n h)) (half X W a h n : EReal) := by
  rw [val_main_v11_apply, val_main_cst_apply]
  unfold half
  refine Eq.trans ?_ (zero_add _)
  refine congrArg₂ (fun p q : EReal => p + q) Ideal.ofBits_zero_f32 ?_
  refine Finset.sum_congr rfl fun c _ => ?_
  have e1 : idx_main_v11 (ix2 n h) c = ix3 n h c := funext fun a => by match a with | ⟨0, _⟩ => rfl | ⟨1, _⟩ => rfl | ⟨2, _⟩ => rfl
  have e2 : idx_main_v9 (ix3 n h c) = ix3 (0 : Fin 1) h c := funext fun a => by match a with | ⟨0, _⟩ => rfl | ⟨1, _⟩ => rfl | ⟨2, _⟩ => rfl
  rw [e1, val_main_v10_apply, val_main_v9_apply, e2]
  exact congrArg₂ (fun p q : EReal => p * q) (v1_at x0 x3 X W hX hW n h c) (ha h c)

/-- The other half is the same function of its own vector. -/
theorem v14_eq : val_main_v14 (F := Ideal) x0 x3 x5 = val_main_v11 (F := Ideal) x0 x3 x5 := rfl

/-- The largest logit into a node, as the reference keeps it: a real number. -/
def am (n : Fin 50000) (h : Fin 4) : ℝ := EReal.toReal (val_main_v43 (F := Ideal) x0 x1 x3 x4 x5 (ix2 n h))

/-- The shift of a node is a real number. -/
theorem v43_at (n : Fin 50000) (h : Fin 4) :
    @Eq EReal (val_main_v43 (F := Ideal) x0 x1 x3 x4 x5 (ix2 n h)) (am x0 x1 x3 x4 x5 n h : ℝ) := by
  have hk : ∃ r : ℝ, @Eq EReal (val_main_v43 (F := Ideal) x0 x1 x3 x4 x5 (ix2 n h)) (r : ℝ) := by
    rw [val_main_v43_apply, val_main_v42_apply, val_main_v40_apply, val_main_v41_apply, val_main_call2_v1_apply]
    generalize val_main_v39 (F := Ideal) x0 x1 x3 x4 x5 (ix2 n h) = y
    obtain ⟨r, hr⟩ := kept_real y
    refine ⟨r, Eq.trans ?_ hr⟩
    refine congrArg₂ (fun p q : EReal => Scalar.select (Ideal.cmp .olt (max (show EReal from y) (-(show EReal from y))) p) (show EReal from y) q) ?_ ?_
    · exact ofBits_top
    · exact Ideal.ofBits_zero_f32
  obtain ⟨r, hr⟩ := hk
  unfold am
  rw [hr, EReal.toReal_coe]

include hX hW ha hb in
/-- The logit of an entry. -/
theorem v29_at (e : Fin 306000) (h : Fin 4) :
    @Eq EReal (val_main_v29 (F := Ideal) x0 x1 x3 x4 x5 (ix2 e h)) ((half X W a h (row (src' x1 e)) + half X W b h (row (dst' x1 e)) : EReal)) := by
  rw [val_main_v29_apply]
  unfold val_main_v21 val_main_v28
  rw [take2 _ _ (src' x1 e) e h (v20_at x1 e), take2 _ _ (dst' x1 e) e h (v27_at x1 e)]
  exact congrArg₂ (fun p q : EReal => p + q) (v11_at x0 x3 x4 X W a hX hW ha _ h) (v11_at x0 x3 x5 X W b hX hW hb _ h)

include hX hW ha hb in
/-- The leaky branch of an entry's logit. -/
theorem v30_at (e : Fin 306000) (h : Fin 4) :
    @Eq EReal (val_main_v30 (F := Ideal) x0 x1 x3 x4 x5 (ix2 e h))
      ((leak (half X W a h (row (src' x1 e)) + half X W b h (row (dst' x1 e))) : EReal)) := by
  rw [val_main_v30_apply, val_main_call0_v1_apply, val_main_call0_v4_apply, val_main_call0_v0_apply, val_main_call0_v3_apply]
  have h29 := v29_at x0 x1 x3 x4 x5 X W a b hX hW ha hb e h
  refine Eq.trans ?_ (leak_ge _)
  have hz : @Eq EReal (val_main_call0_cst (F := Ideal) (idx_main_call0_v0 (ix2 e h))) 0 := Ideal.ofBits_zero_f32
  have hs : @Eq EReal (val_main_call0_v2 (F := Ideal) (idx_main_call0_v3 (ix2 e h))) ((sl : ℝ) : EReal) := ofBits_sl
  show Scalar.select (Ideal.cmp .oge (val_main_v29 (F := Ideal) x0 x1 x3 x4 x5 (ix2 e h)) _) (val_main_v29 (F := Ideal) x0 x1 x3 x4 x5 (ix2 e h))
    ((val_main_call0_v2 (F := Ideal) (idx_main_call0_v3 (ix2 e h)) : EReal) * (val_main_v29 (F := Ideal) x0 x1 x3 x4 x5 (ix2 e h) : EReal)) = _
  rw [h29, hz, hs]

include hX hW ha hb in
/-- The weight of an entry. -/
theorem v52_at (e : Fin 306000) (h : Fin 4) :
    @Eq EReal (val_main_v52 (F := Ideal) x0 x1 x3 x4 x5 (ix2 e h))
      ((pw (half X W a h) (half X W b h) (src' x1) (dst' x1) (fun m => am x0 x1 x3 x4 x5 m h) e : EReal)) := by
  rw [val_main_v52_apply, val_main_v51_apply]
  unfold val_main_v50
  rw [take2 _ _ (dst' x1 e) e h (v49_at x1 e)]
  exact hostExp_sub (v30_at x0 x1 x3 x4 x5 X W a b hX hW ha hb e h) (v43_at x0 x1 x3 x4 x5 (row (dst' x1 e)) h)

include hX hW ha in
/-- The largest half of a logit over the nodes. -/
theorem v56_at (h : Fin 4) : @Eq EReal (val_main_v56 (F := Ideal) x0 x3 x4 (ix1 h)) (top (half X W a h) : EReal) := by
  unfold val_main_v56 val_main_cst_12
  have hr : Shape.Reduces S50000x4 [0] S4 := by decide
  refine (hostMax (val_main_v11 (F := Ideal) x0 x3 x4) reducesTo_S50000x4_S4_d0 h_S_ hr (ix1 h)).trans ?_
  refine Eq.trans ?_ (fold_max_bot _ _)
  refine congrArg₂ (fun (p : EReal) (q : Fin 50000 → EReal) => (Finset.univ : Finset (Fin 50000)).fold max p q) ofBits_bot ?_
  funext n
  have hi : hr.lift (ix1 h) n = ix2 n h := funext fun a => by match a with | ⟨0, _⟩ => rfl | ⟨1, _⟩ => rfl
  show val_main_v11 (F := Ideal) x0 x3 x4 (hr.lift (ix1 h) n) = _
  rw [hi]
  exact v11_at x0 x3 x4 X W a hX hW ha n h

include hX hW ha hb in
/-- The bound of the logits at a head. -/
theorem v59_at (h : Fin 4) : @Eq EReal (val_main_v59 (F := Ideal) x0 x3 x4 x5 (ix1 h)) (bound (half X W a h) (half X W b h) : EReal) := by
  rw [val_main_v59_apply, val_main_v58_apply, val_main_call3_v0_apply]
  have h1 := v56_at x0 x3 x4 X W a hX hW ha h
  have h2 : @Eq EReal (val_main_v57 (F := Ideal) x0 x3 x5 (ix1 h)) (top (half X W b h) : EReal) := v56_at x0 x3 x5 X W b hX hW hb h
  have hz : @Eq EReal (val_main_call3_cst (F := Ideal) (idx_main_call3_v0 (ix1 h))) 0 := Ideal.ofBits_zero_f32
  show max ((val_main_v56 (F := Ideal) x0 x3 x4 (ix1 h) : EReal) + (val_main_v57 (F := Ideal) x0 x3 x5 (ix1 h) : EReal)) _ = _
  rw [h1, h2, hz]
  rfl

include hX hW ha hb in
/-- The denominator of a node, with its guard. -/
theorem v66_at (n : Fin 50000) (h : Fin 4) :
    @Eq EReal (val_main_v66 (F := Ideal) x0 x1 x3 x4 x5 (ix2 n h))
      ((pden (half X W a h) (half X W b h) (bound (half X W a h) (half X W b h)) (src' x1) (dst' x1) (fun m => am x0 x1 x3 x4 x5 m h) n : EReal)) := by
  rw [val_main_v66_apply, val_main_v65_apply, val_main_v64_apply, val_main_v63_apply, val_main_v62_apply, val_main_v61_apply, val_main_v60_apply]
  unfold pden
  refine congrArg₂ (fun p q : EReal => p + q) ?_ ?_
  · unfold val_main_v55
    refine (scatter2 scatter_S50000x4_S306000x1_S306000x4_1_0_0_1.wf _ _ _ n h).trans ?_
    refine Eq.trans ?_ (zero_add _)
    refine congrArg₂ (fun p q : EReal => p + q) ?_ ?_
    · rw [val_main_v53_apply]; exact Ideal.ofBits_zero_f32
    · refine Finset.sum_congr rfl fun e _ => ?_
      exact if_hit (v54_at x1 e) fun _ => v52_at x0 x1 x3 x4 x5 X W a b hX hW ha hb e h
  · refine congrArg₂ (fun p q : EReal => p * q) ofBits_ep ?_
    have hi : idx_main_v60 (idx_main_v61 (ix2 n h)) = ix1 h := funext fun a => by match a with | ⟨0, _⟩ => rfl
    rw [hi]
    exact hostExp_sub (v59_at x0 x3 x4 x5 X W a b hX hW ha hb h) (v43_at x0 x1 x3 x4 x5 n h)

include hX hW ha hb in
/-- The attention's output at a node, a head and a channel. -/
theorem v87_at (n : Fin 50000) (h : Fin 4) (c : Fin 32) :
    @Eq EReal (val_main_v87 (F := Ideal) x0 x1 x3 x4 x5 (ix3 n h c)) ((out (src x1) (dst x1) X W a b n h c : EReal)) := by
  unfold out
  rw [← pagg_eq (src x1) (dst x1) _ _ _ (src' x1) (dst' x1) (fun m => am x0 x1 x3 x4 x5 m h)
    (src'_edge x1) (dst'_edge x1) (src'_loop x1) (dst'_loop x1)]
  unfold val_main_v87 pagg
  refine (scatter3 scatter_S50000x4x32_S306000x1_S306000x4x32_12_0_0_1.wf _ _ _ n h c).trans ?_
  refine Eq.trans ?_ (zero_add _)
  refine congrArg₂ (fun p q : EReal => p + q) ?_ ?_
  · rw [val_main_v85_apply]; exact Ideal.ofBits_zero_f32
  · refine Finset.sum_congr rfl fun e _ => ?_
    refine if_hit (v86_at x1 e) fun _ => ?_
    rw [val_main_v84_apply, val_main_v83_apply, val_main_v82_apply]
    have hi : idx_main_v82 (idx_main_v83 (ix3 e h c)) = ix2 e h := funext fun a => by match a with | ⟨0, _⟩ => rfl | ⟨1, _⟩ => rfl
    rw [hi, val_main_v74_apply]
    unfold val_main_v81 val_main_v73
    rw [take3 _ _ (src' x1 e) e h c (v80_at x1 e), take2 _ _ (dst' x1 e) e h (v72_at x1 e)]
    refine congrArg₂ (fun p q : EReal => p * q) (v1_at x0 x3 X W hX hW _ h c) ?_
    exact congrArg₂ (fun p q : EReal => Ideal.div p q) (v52_at x0 x1 x3 x4 x5 X W a b hX hW ha hb e h)
      (v66_at x0 x1 x3 x4 x5 X W a b hX hW ha hb _ h)

include hX hW ha hb in
/-- Relation 0's output with its bias, at node `n`, head `h`, channel `c`. -/
theorem v91_at (x6 : FA S128) (n : Fin 50000) (h : Fin 4) (c : Fin 32) :
    @Eq EReal (val_main_v91 (F := Ideal) x0 x1 x3 x4 x5 x6 (ix2 n (col h c)))
      (((out (src x1) (dst x1) X W a b n h c : EReal) : EReal) + (x6 (ix1 (col h c)) : EReal)) := by
  have h1 := h.isLt
  have h2 := c.isLt
  rw [val_main_v91_apply, val_main_v90_apply, val_main_v89_apply, val_main_v88_apply]
  have hi : idx_main_v88 (ix2 n (col h c)) = ix3 n h c := funext fun a => Fin.ext (by
    match a with
    | ⟨0, _⟩ => show (n.val * 128 + (32 * h.val + c.val)) / 128 = n.val; omega
    | ⟨1, _⟩ => show (n.val * 128 + (32 * h.val + c.val)) / 32 % 4 = h.val; omega
    | ⟨2, _⟩ => show (n.val * 128 + (32 * h.val + c.val)) % 32 = c.val; omega)
  have hj : idx_main_v89 (idx_main_v90 (ix2 n (col h c))) = ix1 (col h c) := funext fun a => by match a with | ⟨0, _⟩ => rfl
  rw [hi, hj]
  exact congrArg (fun p : EReal => p + (x6 (ix1 (col h c)) : EReal)) (v87_at x0 x1 x3 x4 x5 X W a b hX hW ha hb n h c)

end

/-- Relation 1's stages are relation 0's at its own arguments. -/
theorem v183_eq (x0 : FA S50000x128) (x1 : IA S2x256000) (x3 : FA S128x128) (x4 x5 : FA S1x4x32) (x6 : FA S128) :
    val_main_v183 (F := Ideal) x0 x1 x3 x4 x5 x6 = val_main_v91 (F := Ideal) x0 x1 x3 x4 x5 x6 := rfl

end Cert.Proof.RefValue
-- ==== Proof.Equal.lean ====
/- The two programs' results are equal at equal arguments. -/
module

public import proofs.«01_k».proof.Defs
public import proofs.«01_k».proof.Proof.KRun
public import proofs.«01_k».proof.Proof.KValue
public import proofs.«01_k».proof.Proof.RefValue
public import proofs.«01_k».proof.Proof.Gen.ReferenceIdeal.Run

@[expose] public section

noncomputable section

namespace Cert.Proof.Equal

open Idealize.ShloMosaic Idealize.ShloMosaic.TcCoe Idealize.ShloMosaic.ValueIdx Idealize.SL.Sem
open Cert.KernelIdeal Cert.KernelIdeal.Gen
open Cert.Proof.Spec Cert.Proof.KValue

variable (m : (ℓ : Loc nD τ sig) → Buf (Elt Ideal) ℓ) (ρ : Dev nD → PrngReg)

/-- The reference's value of the arguments is the array the kernel's second region leaves. -/
theorem same (c : Dev nD) :
    Cert.ReferenceIdeal.Read.val_main_v184 (F := Ideal) (A0 m c) (A1 m c) (A2 m c) (A3 m c) (A4 m c) (A5 m c) (A6 m c) (A7 m c) (A8 m c) (A9 m c) (A10 m c)
      = (dat1 (V11 m ρ) c).arrAt 15 cfg1.N := by
  funext i
  obtain ⟨n, q, rfl⟩ : ∃ (n : Fin 50000) (q : Fin 128), i = ix2 n q :=
    ⟨i 0, i 1, funext fun a => by match a with | ⟨0, _⟩ => rfl | ⟨1, _⟩ => rfl⟩
  obtain ⟨k, u, rfl⟩ : ∃ (k : Fin 4) (u : Fin 32), q = col k u :=
    ⟨⟨q.val / 32, by omega⟩, ⟨q.val % 32, by omega⟩, Fin.ext (by show q.val = 32 * (q.val / 32) + q.val % 32; omega)⟩
  have hk := final m ρ c (fun n k => A0 m c (ix2 n k)) (fun k j => (A3 m c (ix2 k j))) (fun k j => (A7 m c (ix2 k j)))
    (fun h k => (A4 m c (ix3 (0 : Fin 1) h k))) (fun h k => (A5 m c (ix3 (0 : Fin 1) h k)))
    (fun h k => (A8 m c (ix3 (0 : Fin 1) h k))) (fun h k => (A9 m c (ix3 (0 : Fin 1) h k)))
    (fun n k => rfl) (fun k j => rfl) (fun k j => rfl) (fun h k => rfl) (fun h k => rfl) (fun h k => rfl) (fun h k => rfl) n k u
  have h0 := RefValue.v91_at (A0 m c) (A1 m c) (A3 m c) (A4 m c) (A5 m c)
    (fun n k => A0 m c (ix2 n k)) (fun k j => (A3 m c (ix2 k j)))
    (fun h k => (A4 m c (ix3 (0 : Fin 1) h k))) (fun h k => (A5 m c (ix3 (0 : Fin 1) h k)))
    (fun n k => rfl) (fun k j => rfl) (fun h k => rfl) (fun h k => rfl) (A6 m c) n k u
  have h1 := RefValue.v91_at (A0 m c) (A2 m c) (A7 m c) (A8 m c) (A9 m c)
    (fun n k => A0 m c (ix2 n k)) (fun k j => (A7 m c (ix2 k j)))
    (fun h k => (A8 m c (ix3 (0 : Fin 1) h k))) (fun h k => (A9 m c (ix3 (0 : Fin 1) h k)))
    (fun n k => rfl) (fun k j => rfl) (fun h k => rfl) (fun h k => rfl) (A10 m c) n k u
  refine Eq.trans ?_ hk.symm
  rw [Cert.ReferenceIdeal.Read.val_main_v184_apply, RefValue.v183_eq]
  refine (congrArg₂ (fun p q : EReal => p + q) h0 h1).trans ?_
  exact add_add_add_comm _ _ _ _

/-- From arguments that agree, the kernel and the reference end with the same result, and both keep their arguments. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => (dat1 (V11 m g) c).arrAt 15 cfg1.N, Cert.KernelIdeal.Gen.run_result m g, ?_⟩
  refine (θ_run _ _ _).mono (fun r h c => ⟨(h c).1.trans ?_, (h c).2⟩) (Cert.ReferenceIdeal.Value.run m' g')
  obtain ⟨e0, e1, e2, e3, e4, e5, e6, e7, e8, e9, e10⟩ := hm c
  refine Eq.trans ?_ (same m g c)
  refine (Cert.ReferenceIdeal.Read.val_main_v184_eq (StableHlo.launchContents m' c)).trans ?_
  show Cert.ReferenceIdeal.Read.val_main_v184 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
  rw [e0, e1, e2, e3, e4, e5, e6, e7, e8, e9, e10]

end Cert.Proof.Equal

end
-- ==== Proof.RefPrinted.lean ====
/- The printed reference: it is the same program as the reference over the extended reals, read at floats, and
   what runs the one at any reading of floats runs the other. -/
module

public import proofs.«01_k».proof.Defs
public import proofs.«01_k».proof.Reference
public import proofs.«01_k».proof.Proof.Gen.ReferenceIdeal
public import proofs.«01_k».proof.Proof.Gen.ReferenceIdeal.Run
public import Idealize.ShloMosaic.Lib.Quiescent

@[expose] public section

noncomputable section

namespace Cert.Proof.RefPrinted

open Idealize.ShloMosaic Idealize.SL.Sem

/-- The printed reference's side conditions are those of the reference over the extended reals. -/
theorem facts₀ : Cert.Reference.Facts₀ where
  shapeCasts_S50000x128_S50000x4x32 := Cert.ReferenceIdeal.Gen.shapeCasts_S50000x128_S50000x4x32
  slices_S2x256000_S1x256000_0_0 := Cert.ReferenceIdeal.Gen.slices_S2x256000_S1x256000_0_0
  shapeCasts_S1x256000_S256000 := Cert.ReferenceIdeal.Gen.shapeCasts_S1x256000_S256000
  concatenates_S256000_S50000_S306000_d0 := Cert.ReferenceIdeal.Gen.concatenates_S256000_S50000_S306000_d0
  slices_S2x256000_S1x256000_1_0 := Cert.ReferenceIdeal.Gen.slices_S2x256000_S1x256000_1_0
  bcast_S1x4x32_S50000x4x32_0_1_2 := Cert.ReferenceIdeal.Gen.bcast_S1x4x32_S50000x4x32_0_1_2
  reducesTo_S50000x4x32_S50000x4_d2 := Cert.ReferenceIdeal.Gen.reducesTo_S50000x4x32_S50000x4_d2
  h_S_ := Cert.ReferenceIdeal.Gen.h_S_
  bcast_S_S306000 := Cert.ReferenceIdeal.Gen.bcast_S_S306000
  bcast_S306000_S306000x1_0 := Cert.ReferenceIdeal.Gen.bcast_S306000_S306000x1_0
  bcast_S_S306000x4 := Cert.ReferenceIdeal.Gen.bcast_S_S306000x4
  bcast_S50000_S1x50000_1 := Cert.ReferenceIdeal.Gen.bcast_S50000_S1x50000_1
  bcast_S306000x1_S306000x50000_0_1 := Cert.ReferenceIdeal.Gen.bcast_S306000x1_S306000x50000_0_1
  bcast_S1x50000_S306000x50000_0_1 := Cert.ReferenceIdeal.Gen.bcast_S1x50000_S306000x50000_0_1
  bcast_S306000x50000_S306000x50000x1_0_1 := Cert.ReferenceIdeal.Gen.bcast_S306000x50000_S306000x50000x1_0_1
  bcast_S306000x4_S306000x1x4_0_2 := Cert.ReferenceIdeal.Gen.bcast_S306000x4_S306000x1x4_0_2
  bcast_S306000x50000x1_S306000x50000x4_0_1_2 := Cert.ReferenceIdeal.Gen.bcast_S306000x50000x1_S306000x50000x4_0_1_2
  bcast_S306000x1x4_S306000x50000x4_0_1_2 := Cert.ReferenceIdeal.Gen.bcast_S306000x1x4_S306000x50000x4_0_1_2
  bcast_S_S306000x50000x4 := Cert.ReferenceIdeal.Gen.bcast_S_S306000x50000x4
  reducesTo_S306000x50000x4_S50000x4_d0 := Cert.ReferenceIdeal.Gen.reducesTo_S306000x50000x4_S50000x4_d0
  bcast_S_S50000x4 := Cert.ReferenceIdeal.Gen.bcast_S_S50000x4
  reducesTo_S50000x4_S4_d0 := Cert.ReferenceIdeal.Gen.reducesTo_S50000x4_S4_d0
  bcast_S_S4 := Cert.ReferenceIdeal.Gen.bcast_S_S4
  bcast_S4_S1x4_1 := Cert.ReferenceIdeal.Gen.bcast_S4_S1x4_1
  bcast_S1x4_S50000x4_0_1 := Cert.ReferenceIdeal.Gen.bcast_S1x4_S50000x4_0_1
  bcast_S306000x4_S306000x4x1_0_1 := Cert.ReferenceIdeal.Gen.bcast_S306000x4_S306000x4x1_0_1
  bcast_S306000x4x1_S306000x4x32_0_1_2 := Cert.ReferenceIdeal.Gen.bcast_S306000x4x1_S306000x4x32_0_1_2
  bcast_S_S50000x4x32 := Cert.ReferenceIdeal.Gen.bcast_S_S50000x4x32
  shapeCasts_S50000x4x32_S50000x128 := Cert.ReferenceIdeal.Gen.shapeCasts_S50000x4x32_S50000x128
  bcast_S128_S1x128_1 := Cert.ReferenceIdeal.Gen.bcast_S128_S1x128_1
  bcast_S1x128_S50000x128_0_1 := Cert.ReferenceIdeal.Gen.bcast_S1x128_S50000x128_0_1
  dot_S50000x128_S128x128_S50000x128_1_0_0_1_n_n_wf := Cert.ReferenceIdeal.Gen.dot_S50000x128_S128x128_S50000x128_1_0_0_1_n_n_wf
  gather_S50000x4_S306000x1_S306000x4_1_0_n_n_0_1_14_wf := Cert.ReferenceIdeal.Gen.gather_S50000x4_S306000x1_S306000x4_1_0_n_n_0_1_14_wf
  scatter_S50000x4_S306000x1_S306000x4_1_0_0_1_wf := Cert.ReferenceIdeal.Gen.scatter_S50000x4_S306000x1_S306000x4_1_0_0_1_wf
  gather_S50000x4x32_S306000x1_S306000x4x32_12_0_n_n_0_1_1432_wf := Cert.ReferenceIdeal.Gen.gather_S50000x4x32_S306000x1_S306000x4x32_12_0_n_n_0_1_1432_wf
  scatter_S50000x4x32_S306000x1_S306000x4x32_12_0_0_1_wf := Cert.ReferenceIdeal.Gen.scatter_S50000x4x32_S306000x1_S306000x4x32_12_0_0_1_wf

/-- All of the printed reference's side conditions. -/
theorem facts : Cert.Reference.Facts where
  toFacts₀ := facts₀

/-- The reference as printed runs and keeps its arguments; it has no semaphore at all. Its code is
    the code of the reference over the extended reals, which runs at every reading of floats. -/
theorem frame : Cert.quiescent_Reference (hReference := facts) :=
  fun m g _ => (θ_run _ _ _).mono
    (fun r h => ⟨fun c => (h c).2, sem_eq_zero_of_no_sems (by decide) r.2⟩)
    (Cert.ReferenceIdeal.Value.run (F := Bits) m g)

end Cert.Proof.RefPrinted

end
-- ==== Proof.lean ====
module

public import proofs.«01_k».proof.Defs
public import proofs.«01_k».proof.Proof.Frames
public import proofs.«01_k».proof.Proof.Equal
public import proofs.«01_k».proof.Proof.RefPrinted
public import proofs.«01_k».proof.Proof.Gen.ReferenceIdeal.Read

@[expose] public section

noncomputable section

namespace Cert.Proof

open Idealize.ShloMosaic Idealize.SL.Sem

/-- Every claim of the certificate. -/
theorem claim : Cert.Claim := ⟨Cert.Kernel.Gen.facts, Cert.KernelIdeal.Gen.facts, RefPrinted.facts,
  Cert.ReferenceIdeal.Gen.facts, frame_kernel, frame_kernelIdeal, RefPrinted.frame, frame_referenceIdeal, trivial, trivial, Equal.algebraic⟩

end Cert.Proof

end
